-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Nbr (m : (ℓ : Loc Cert.Nbr.nD Cert.Nbr.τ Cert.Nbr.sig) → Buf (Elt Bits) ℓ) : Prop :=
  True

def Pre_NbrIdeal (m : (ℓ : Loc Cert.NbrIdeal.nD Cert.NbrIdeal.τ Cert.NbrIdeal.sig) → Buf (Elt Ideal) ℓ) : Prop :=
  True

def Pre_NbrIdeal_na_finite [hPre_na_finite : Cert.Pre_na_finite.Facts] (m : (ℓ : Loc Cert.NbrIdeal.nD Cert.NbrIdeal.τ Cert.NbrIdeal.sig) → Buf (Elt Ideal) ℓ) : Prop :=
  ∀ c : Dev Cert.NbrIdeal.nD,
    (Cert.Pre_na_finite.fn (F := Ideal) (m ((c.tc : Thread Cert.NbrIdeal.nD Cert.NbrIdeal.τ).loc Cert.NbrIdeal.main_arg0)) (m ((c.tc : Thread Cert.NbrIdeal.nD Cert.NbrIdeal.τ).loc Cert.NbrIdeal.main_arg1)) (m ((c.tc : Thread Cert.NbrIdeal.nD Cert.NbrIdeal.τ).loc Cert.NbrIdeal.main_arg2)) (m ((c.tc : Thread Cert.NbrIdeal.nD Cert.NbrIdeal.τ).loc Cert.NbrIdeal.main_arg3))).1 = (fun _ => 1#1)
    ∧ (Cert.Pre_na_finite.fn (F := Ideal) (m ((c.tc : Thread Cert.NbrIdeal.nD Cert.NbrIdeal.τ).loc Cert.NbrIdeal.main_arg0)) (m ((c.tc : Thread Cert.NbrIdeal.nD Cert.NbrIdeal.τ).loc Cert.NbrIdeal.main_arg1)) (m ((c.tc : Thread Cert.NbrIdeal.nD Cert.NbrIdeal.τ).loc Cert.NbrIdeal.main_arg2)) (m ((c.tc : Thread Cert.NbrIdeal.nD Cert.NbrIdeal.τ).loc Cert.NbrIdeal.main_arg3))).2.1 = (fun _ => 1#1)
    ∧ (Cert.Pre_na_finite.fn (F := Ideal) (m ((c.tc : Thread Cert.NbrIdeal.nD Cert.NbrIdeal.τ).loc Cert.NbrIdeal.main_arg0)) (m ((c.tc : Thread Cert.NbrIdeal.nD Cert.NbrIdeal.τ).loc Cert.NbrIdeal.main_arg1)) (m ((c.tc : Thread Cert.NbrIdeal.nD Cert.NbrIdeal.τ).loc Cert.NbrIdeal.main_arg2)) (m ((c.tc : Thread Cert.NbrIdeal.nD Cert.NbrIdeal.τ).loc Cert.NbrIdeal.main_arg3))).2.2 = (fun _ => 1#1)

def Pre_NbrRefIdeal (m : (ℓ : Loc Cert.NbrRefIdeal.nD Cert.NbrRefIdeal.τ Cert.NbrRefIdeal.sig) → Buf (Elt Ideal) ℓ) : Prop :=
  True

def Pre_NbrRefIdeal_na_finite [hPre_na_finite : Cert.Pre_na_finite.Facts] (m : (ℓ : Loc Cert.NbrRefIdeal.nD Cert.NbrRefIdeal.τ Cert.NbrRefIdeal.sig) → Buf (Elt Ideal) ℓ) : Prop :=
  ∀ c : Dev Cert.NbrRefIdeal.nD,
    (Cert.Pre_na_finite.fn (F := Ideal) (m ((c.tc : Thread Cert.NbrRefIdeal.nD Cert.NbrRefIdeal.τ).loc Cert.NbrRefIdeal.main_arg0)) (m ((c.tc : Thread Cert.NbrRefIdeal.nD Cert.NbrRefIdeal.τ).loc Cert.NbrRefIdeal.main_arg1)) (m ((c.tc : Thread Cert.NbrRefIdeal.nD Cert.NbrRefIdeal.τ).loc Cert.NbrRefIdeal.main_arg2)) (m ((c.tc : Thread Cert.NbrRefIdeal.nD Cert.NbrRefIdeal.τ).loc Cert.NbrRefIdeal.main_arg3))).1 = (fun _ => 1#1)
    ∧ (Cert.Pre_na_finite.fn (F := Ideal) (m ((c.tc : Thread Cert.NbrRefIdeal.nD Cert.NbrRefIdeal.τ).loc Cert.NbrRefIdeal.main_arg0)) (m ((c.tc : Thread Cert.NbrRefIdeal.nD Cert.NbrRefIdeal.τ).loc Cert.NbrRefIdeal.main_arg1)) (m ((c.tc : Thread Cert.NbrRefIdeal.nD Cert.NbrRefIdeal.τ).loc Cert.NbrRefIdeal.main_arg2)) (m ((c.tc : Thread Cert.NbrRefIdeal.nD Cert.NbrRefIdeal.τ).loc Cert.NbrRefIdeal.main_arg3))).2.1 = (fun _ => 1#1)
    ∧ (Cert.Pre_na_finite.fn (F := Ideal) (m ((c.tc : Thread Cert.NbrRefIdeal.nD Cert.NbrRefIdeal.τ).loc Cert.NbrRefIdeal.main_arg0)) (m ((c.tc : Thread Cert.NbrRefIdeal.nD Cert.NbrRefIdeal.τ).loc Cert.NbrRefIdeal.main_arg1)) (m ((c.tc : Thread Cert.NbrRefIdeal.nD Cert.NbrRefIdeal.τ).loc Cert.NbrRefIdeal.main_arg2)) (m ((c.tc : Thread Cert.NbrRefIdeal.nD Cert.NbrRefIdeal.τ).loc Cert.NbrRefIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Nbr [hNbr : Cert.Nbr.Facts] : Prop :=
  ∀ (m : (ℓ : Loc Cert.Nbr.nD Cert.Nbr.τ Cert.Nbr.sig) → Buf (Elt Bits) ℓ) (g : Dev Cert.Nbr.nD → PrngReg), Pre_Nbr m →
    θ_run (Cert.Nbr.defs (F := Bits)) (onTc (τ := Cert.Nbr.τ) (Cert.Nbr.main (F := Bits))) ⟨m, fun _ => 0, g⟩ (fun r => (∀ c : Dev Cert.Nbr.nD,
      r.2.mem ((c.tc : Thread Cert.Nbr.nD Cert.Nbr.τ).loc Cert.Nbr.main_arg0) = m ((c.tc : Thread Cert.Nbr.nD Cert.Nbr.τ).loc Cert.Nbr.main_arg0)
      ∧ r.2.mem ((c.tc : Thread Cert.Nbr.nD Cert.Nbr.τ).loc Cert.Nbr.main_arg1) = m ((c.tc : Thread Cert.Nbr.nD Cert.Nbr.τ).loc Cert.Nbr.main_arg1)
      ∧ r.2.mem ((c.tc : Thread Cert.Nbr.nD Cert.Nbr.τ).loc Cert.Nbr.main_arg2) = m ((c.tc : Thread Cert.Nbr.nD Cert.Nbr.τ).loc Cert.Nbr.main_arg2)
      ∧ r.2.mem ((c.tc : Thread Cert.Nbr.nD Cert.Nbr.τ).loc Cert.Nbr.main_arg3) = m ((c.tc : Thread Cert.Nbr.nD Cert.Nbr.τ).loc Cert.Nbr.main_arg3))
      ∧ r.2.sem = fun _ => 0)

def quiescent_NbrIdeal [hNbrIdeal : Cert.NbrIdeal.Facts] : Prop :=
  ∀ (m : (ℓ : Loc Cert.NbrIdeal.nD Cert.NbrIdeal.τ Cert.NbrIdeal.sig) → Buf (Elt Ideal) ℓ) (g : Dev Cert.NbrIdeal.nD → PrngReg), Pre_NbrIdeal m →
    θ_run (Cert.NbrIdeal.defs (F := Ideal)) (onTc (τ := Cert.NbrIdeal.τ) (Cert.NbrIdeal.main (F := Ideal))) ⟨m, fun _ => 0, g⟩ (fun r => (∀ c : Dev Cert.NbrIdeal.nD,
      r.2.mem ((c.tc : Thread Cert.NbrIdeal.nD Cert.NbrIdeal.τ).loc Cert.NbrIdeal.main_arg0) = m ((c.tc : Thread Cert.NbrIdeal.nD Cert.NbrIdeal.τ).loc Cert.NbrIdeal.main_arg0)
      ∧ r.2.mem ((c.tc : Thread Cert.NbrIdeal.nD Cert.NbrIdeal.τ).loc Cert.NbrIdeal.main_arg1) = m ((c.tc : Thread Cert.NbrIdeal.nD Cert.NbrIdeal.τ).loc Cert.NbrIdeal.main_arg1)
      ∧ r.2.mem ((c.tc : Thread Cert.NbrIdeal.nD Cert.NbrIdeal.τ).loc Cert.NbrIdeal.main_arg2) = m ((c.tc : Thread Cert.NbrIdeal.nD Cert.NbrIdeal.τ).loc Cert.NbrIdeal.main_arg2)
      ∧ r.2.mem ((c.tc : Thread Cert.NbrIdeal.nD Cert.NbrIdeal.τ).loc Cert.NbrIdeal.main_arg3) = m ((c.tc : Thread Cert.NbrIdeal.nD Cert.NbrIdeal.τ).loc Cert.NbrIdeal.main_arg3))
      ∧ r.2.sem = fun _ => 0)

def quiescent_NbrIdeal_pre_na_finite [hNbrIdeal : Cert.NbrIdeal.Facts] [hPre_na_finite : Cert.Pre_na_finite.Facts] : Prop :=
  ∀ (m : (ℓ : Loc Cert.NbrIdeal.nD Cert.NbrIdeal.τ Cert.NbrIdeal.sig) → Buf (Elt Ideal) ℓ) (g : Dev Cert.NbrIdeal.nD → PrngReg), Pre_NbrIdeal_na_finite m →
    θ_run (Cert.NbrIdeal.defs (F := Ideal)) (onTc (τ := Cert.NbrIdeal.τ) (Cert.NbrIdeal.main (F := Ideal))) ⟨m, fun _ => 0, g⟩ (fun r => (∀ c : Dev Cert.NbrIdeal.nD,
      r.2.mem ((c.tc : Thread Cert.NbrIdeal.nD Cert.NbrIdeal.τ).loc Cert.NbrIdeal.main_arg0) = m ((c.tc : Thread Cert.NbrIdeal.nD Cert.NbrIdeal.τ).loc Cert.NbrIdeal.main_arg0)
      ∧ r.2.mem ((c.tc : Thread Cert.NbrIdeal.nD Cert.NbrIdeal.τ).loc Cert.NbrIdeal.main_arg1) = m ((c.tc : Thread Cert.NbrIdeal.nD Cert.NbrIdeal.τ).loc Cert.NbrIdeal.main_arg1)
      ∧ r.2.mem ((c.tc : Thread Cert.NbrIdeal.nD Cert.NbrIdeal.τ).loc Cert.NbrIdeal.main_arg2) = m ((c.tc : Thread Cert.NbrIdeal.nD Cert.NbrIdeal.τ).loc Cert.NbrIdeal.main_arg2)
      ∧ r.2.mem ((c.tc : Thread Cert.NbrIdeal.nD Cert.NbrIdeal.τ).loc Cert.NbrIdeal.main_arg3) = m ((c.tc : Thread Cert.NbrIdeal.nD Cert.NbrIdeal.τ).loc Cert.NbrIdeal.main_arg3))
      ∧ r.2.sem = fun _ => 0)

def quiescent_NbrRefIdeal [hNbrRefIdeal : Cert.NbrRefIdeal.Facts] : Prop :=
  ∀ (m : (ℓ : Loc Cert.NbrRefIdeal.nD Cert.NbrRefIdeal.τ Cert.NbrRefIdeal.sig) → Buf (Elt Ideal) ℓ) (g : Dev Cert.NbrRefIdeal.nD → PrngReg), Pre_NbrRefIdeal m →
    θ_run (Cert.NbrRefIdeal.defs (F := Ideal)) (onTc (τ := Cert.NbrRefIdeal.τ) (Cert.NbrRefIdeal.main (F := Ideal))) ⟨m, fun _ => 0, g⟩ (fun r => (∀ c : Dev Cert.NbrRefIdeal.nD,
      r.2.mem ((c.tc : Thread Cert.NbrRefIdeal.nD Cert.NbrRefIdeal.τ).loc Cert.NbrRefIdeal.main_arg0) = m ((c.tc : Thread Cert.NbrRefIdeal.nD Cert.NbrRefIdeal.τ).loc Cert.NbrRefIdeal.main_arg0)
      ∧ r.2.mem ((c.tc : Thread Cert.NbrRefIdeal.nD Cert.NbrRefIdeal.τ).loc Cert.NbrRefIdeal.main_arg1) = m ((c.tc : Thread Cert.NbrRefIdeal.nD Cert.NbrRefIdeal.τ).loc Cert.NbrRefIdeal.main_arg1)
      ∧ r.2.mem ((c.tc : Thread Cert.NbrRefIdeal.nD Cert.NbrRefIdeal.τ).loc Cert.NbrRefIdeal.main_arg2) = m ((c.tc : Thread Cert.NbrRefIdeal.nD Cert.NbrRefIdeal.τ).loc Cert.NbrRefIdeal.main_arg2)
      ∧ r.2.mem ((c.tc : Thread Cert.NbrRefIdeal.nD Cert.NbrRefIdeal.τ).loc Cert.NbrRefIdeal.main_arg3) = m ((c.tc : Thread Cert.NbrRefIdeal.nD Cert.NbrRefIdeal.τ).loc Cert.NbrRefIdeal.main_arg3))
      ∧ r.2.sem = fun _ => 0)

def quiescent_NbrRefIdeal_pre_na_finite [hNbrRefIdeal : Cert.NbrRefIdeal.Facts] [hPre_na_finite : Cert.Pre_na_finite.Facts] : Prop :=
  ∀ (m : (ℓ : Loc Cert.NbrRefIdeal.nD Cert.NbrRefIdeal.τ Cert.NbrRefIdeal.sig) → Buf (Elt Ideal) ℓ) (g : Dev Cert.NbrRefIdeal.nD → PrngReg), Pre_NbrRefIdeal_na_finite m →
    θ_run (Cert.NbrRefIdeal.defs (F := Ideal)) (onTc (τ := Cert.NbrRefIdeal.τ) (Cert.NbrRefIdeal.main (F := Ideal))) ⟨m, fun _ => 0, g⟩ (fun r => (∀ c : Dev Cert.NbrRefIdeal.nD,
      r.2.mem ((c.tc : Thread Cert.NbrRefIdeal.nD Cert.NbrRefIdeal.τ).loc Cert.NbrRefIdeal.main_arg0) = m ((c.tc : Thread Cert.NbrRefIdeal.nD Cert.NbrRefIdeal.τ).loc Cert.NbrRefIdeal.main_arg0)
      ∧ r.2.mem ((c.tc : Thread Cert.NbrRefIdeal.nD Cert.NbrRefIdeal.τ).loc Cert.NbrRefIdeal.main_arg1) = m ((c.tc : Thread Cert.NbrRefIdeal.nD Cert.NbrRefIdeal.τ).loc Cert.NbrRefIdeal.main_arg1)
      ∧ r.2.mem ((c.tc : Thread Cert.NbrRefIdeal.nD Cert.NbrRefIdeal.τ).loc Cert.NbrRefIdeal.main_arg2) = m ((c.tc : Thread Cert.NbrRefIdeal.nD Cert.NbrRefIdeal.τ).loc Cert.NbrRefIdeal.main_arg2)
      ∧ r.2.mem ((c.tc : Thread Cert.NbrRefIdeal.nD Cert.NbrRefIdeal.τ).loc Cert.NbrRefIdeal.main_arg3) = m ((c.tc : Thread Cert.NbrRefIdeal.nD Cert.NbrRefIdeal.τ).loc Cert.NbrRefIdeal.main_arg3))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v6_0)) (v1 : (c : Dev Cert.OutIdeal.nD) → Buf (Elt Ideal) ((c.tc : Thread Cert.OutIdeal.nD Cert.OutIdeal.τ).loc Cert.OutIdeal.main_v6_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6_0) = v0 c
          ∧ r.2.mem ((c.tc : Thread Cert.OutIdeal.nD Cert.OutIdeal.τ).loc Cert.OutIdeal.main_v6_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v43) = v0 c
          ∧ r.2.mem ((c.tc : Thread Cert.OutRefIdeal.nD Cert.OutRefIdeal.τ).loc Cert.OutRefIdeal.main_v68) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Inp_InpIdeal : Prop :=
  IdealRules.named_const.Statement Cert.InpIdeal.κ "rope_rate" .f32 0xBE935D8E#32 ((-((Real.log 10000) * (1 / 32)) : ℝ) : EReal)

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)) →
    ∃ (v0 : (c : Dev Cert.InpIdeal.nD) → Buf (Elt Ideal) ((c.tc : Thread Cert.InpIdeal.nD Cert.InpIdeal.τ).loc Cert.InpIdeal.main_v17_0)) (v1 : (c : Dev Cert.InpIdeal.nD) → Buf (Elt Ideal) ((c.tc : Thread Cert.InpIdeal.nD Cert.InpIdeal.τ).loc Cert.InpIdeal.main_v17_1)) (v2 : (c : Dev Cert.InpIdeal.nD) → Buf (Elt Ideal) ((c.tc : Thread Cert.InpIdeal.nD Cert.InpIdeal.τ).loc Cert.InpIdeal.main_v17_2)) (v3 : (c : Dev Cert.InpIdeal.nD) → Buf (Elt Ideal) ((c.tc : Thread Cert.InpIdeal.nD Cert.InpIdeal.τ).loc Cert.InpIdeal.main_v17_3)) (v4 : (c : Dev Cert.InpIdeal.nD) → Buf (Elt Ideal) ((c.tc : Thread Cert.InpIdeal.nD Cert.InpIdeal.τ).loc Cert.InpIdeal.main_v17_4)) (v5 : (c : Dev Cert.InpIdeal.nD) → Buf (Elt Ideal) ((c.tc : Thread Cert.InpIdeal.nD Cert.InpIdeal.τ).loc Cert.InpIdeal.main_v17_5)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v17_0) = v0 c
          ∧ r.2.mem ((c.tc : Thread Cert.InpIdeal.nD Cert.InpIdeal.τ).loc Cert.InpIdeal.main_v17_1) = v1 c
          ∧ r.2.mem ((c.tc : Thread Cert.InpIdeal.nD Cert.InpIdeal.τ).loc Cert.InpIdeal.main_v17_2) = v2 c
          ∧ r.2.mem ((c.tc : Thread Cert.InpIdeal.nD Cert.InpIdeal.τ).loc Cert.InpIdeal.main_v17_3) = v3 c
          ∧ r.2.mem ((c.tc : Thread Cert.InpIdeal.nD Cert.InpIdeal.τ).loc Cert.InpIdeal.main_v17_4) = v4 c
          ∧ r.2.mem ((c.tc : Thread Cert.InpIdeal.nD Cert.InpIdeal.τ).loc Cert.InpIdeal.main_v17_5) = v5 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v107) = v0 c
          ∧ r.2.mem ((c.tc : Thread Cert.InpRefIdeal.nD Cert.InpRefIdeal.τ).loc Cert.InpRefIdeal.main_v108) = v1 c
          ∧ r.2.mem ((c.tc : Thread Cert.InpRefIdeal.nD Cert.InpRefIdeal.τ).loc Cert.InpRefIdeal.main_v109) = v2 c
          ∧ r.2.mem ((c.tc : Thread Cert.InpRefIdeal.nD Cert.InpRefIdeal.τ).loc Cert.InpRefIdeal.main_v110) = v3 c
          ∧ r.2.mem ((c.tc : Thread Cert.InpRefIdeal.nD Cert.InpRefIdeal.τ).loc Cert.InpRefIdeal.main_v111) = v4 c
          ∧ r.2.mem ((c.tc : Thread Cert.InpRefIdeal.nD Cert.InpRefIdeal.τ).loc Cert.InpRefIdeal.main_v112) = v5 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Nbr_NbrIdeal : Prop :=
  True

def algebraic_NbrIdeal_NbrRefIdeal_pre_na_finite [hNbrIdeal : Cert.NbrIdeal.Facts] [hNbrRefIdeal : Cert.NbrRefIdeal.Facts] [hPre_na_finite : Cert.Pre_na_finite.Facts] : Prop :=
  ∀ (m : (ℓ : Loc Cert.NbrIdeal.nD Cert.NbrIdeal.τ Cert.NbrIdeal.sig) → Buf (Elt Ideal) ℓ) (g : Dev Cert.NbrIdeal.nD → PrngReg)
    (m' : (ℓ : Loc Cert.NbrRefIdeal.nD Cert.NbrRefIdeal.τ Cert.NbrRefIdeal.sig) → Buf (Elt Ideal) ℓ) (g' : Dev Cert.NbrRefIdeal.nD → PrngReg), Pre_NbrIdeal_na_finite m →
    (∀ c : Dev Cert.NbrIdeal.nD,
      m' ((c.tc : Thread Cert.NbrRefIdeal.nD Cert.NbrRefIdeal.τ).loc Cert.NbrRefIdeal.main_arg0) = m ((c.tc : Thread Cert.NbrIdeal.nD Cert.NbrIdeal.τ).loc Cert.NbrIdeal.main_arg0)
      ∧ m' ((c.tc : Thread Cert.NbrRefIdeal.nD Cert.NbrRefIdeal.τ).loc Cert.NbrRefIdeal.main_arg1) = m ((c.tc : Thread Cert.NbrIdeal.nD Cert.NbrIdeal.τ).loc Cert.NbrIdeal.main_arg1)
      ∧ m' ((c.tc : Thread Cert.NbrRefIdeal.nD Cert.NbrRefIdeal.τ).loc Cert.NbrRefIdeal.main_arg2) = m ((c.tc : Thread Cert.NbrIdeal.nD Cert.NbrIdeal.τ).loc Cert.NbrIdeal.main_arg2)
      ∧ m' ((c.tc : Thread Cert.NbrRefIdeal.nD Cert.NbrRefIdeal.τ).loc Cert.NbrRefIdeal.main_arg3) = m ((c.tc : Thread Cert.NbrIdeal.nD Cert.NbrIdeal.τ).loc Cert.NbrIdeal.main_arg3)) →
    ∃ (v0 : (c : Dev Cert.NbrIdeal.nD) → Buf (Elt Ideal) ((c.tc : Thread Cert.NbrIdeal.nD Cert.NbrIdeal.τ).loc Cert.NbrIdeal.main_v0)),
      θ_run (Cert.NbrIdeal.defs (F := Ideal)) (onTc (τ := Cert.NbrIdeal.τ) (Cert.NbrIdeal.main (F := Ideal))) ⟨m, fun _ => 0, g⟩ (fun r => ∀ c : Dev Cert.NbrIdeal.nD,
          r.2.mem ((c.tc : Thread Cert.NbrIdeal.nD Cert.NbrIdeal.τ).loc Cert.NbrIdeal.main_v0) = v0 c
          ∧ r.2.mem ((c.tc : Thread Cert.NbrIdeal.nD Cert.NbrIdeal.τ).loc Cert.NbrIdeal.main_arg0) = m ((c.tc : Thread Cert.NbrIdeal.nD Cert.NbrIdeal.τ).loc Cert.NbrIdeal.main_arg0)
          ∧ r.2.mem ((c.tc : Thread Cert.NbrIdeal.nD Cert.NbrIdeal.τ).loc Cert.NbrIdeal.main_arg1) = m ((c.tc : Thread Cert.NbrIdeal.nD Cert.NbrIdeal.τ).loc Cert.NbrIdeal.main_arg1)
          ∧ r.2.mem ((c.tc : Thread Cert.NbrIdeal.nD Cert.NbrIdeal.τ).loc Cert.NbrIdeal.main_arg2) = m ((c.tc : Thread Cert.NbrIdeal.nD Cert.NbrIdeal.τ).loc Cert.NbrIdeal.main_arg2)
          ∧ r.2.mem ((c.tc : Thread Cert.NbrIdeal.nD Cert.NbrIdeal.τ).loc Cert.NbrIdeal.main_arg3) = m ((c.tc : Thread Cert.NbrIdeal.nD Cert.NbrIdeal.τ).loc Cert.NbrIdeal.main_arg3))
      ∧ θ_run (Cert.NbrRefIdeal.defs (F := Ideal)) (onTc (τ := Cert.NbrRefIdeal.τ) (Cert.NbrRefIdeal.main (F := Ideal))) ⟨m', fun _ => 0, g'⟩ (fun r => ∀ c : Dev Cert.NbrRefIdeal.nD,
          r.2.mem ((c.tc : Thread Cert.NbrRefIdeal.nD Cert.NbrRefIdeal.τ).loc Cert.NbrRefIdeal.main_v48) = v0 c
          ∧ r.2.mem ((c.tc : Thread Cert.NbrRefIdeal.nD Cert.NbrRefIdeal.τ).loc Cert.NbrRefIdeal.main_arg0) = m' ((c.tc : Thread Cert.NbrRefIdeal.nD Cert.NbrRefIdeal.τ).loc Cert.NbrRefIdeal.main_arg0)
          ∧ r.2.mem ((c.tc : Thread Cert.NbrRefIdeal.nD Cert.NbrRefIdeal.τ).loc Cert.NbrRefIdeal.main_arg1) = m' ((c.tc : Thread Cert.NbrRefIdeal.nD Cert.NbrRefIdeal.τ).loc Cert.NbrRefIdeal.main_arg1)
          ∧ r.2.mem ((c.tc : Thread Cert.NbrRefIdeal.nD Cert.NbrRefIdeal.τ).loc Cert.NbrRefIdeal.main_arg2) = m' ((c.tc : Thread Cert.NbrRefIdeal.nD Cert.NbrRefIdeal.τ).loc Cert.NbrRefIdeal.main_arg2)
          ∧ r.2.mem ((c.tc : Thread Cert.NbrRefIdeal.nD Cert.NbrRefIdeal.τ).loc Cert.NbrRefIdeal.main_arg3) = m' ((c.tc : Thread Cert.NbrRefIdeal.nD Cert.NbrRefIdeal.τ).loc Cert.NbrRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hInp : Cert.Inp.Facts) (hInpIdeal : Cert.InpIdeal.Facts) (hInpRefIdeal : Cert.InpRefIdeal.Facts) (hAda : Cert.Ada.Facts) (hAdaIdeal : Cert.AdaIdeal.Facts) (hAdaRefIdeal : Cert.AdaRefIdeal.Facts) (hNbr : Cert.Nbr.Facts) (hNbrIdeal : Cert.NbrIdeal.Facts) (hNbrRefIdeal : Cert.NbrRefIdeal.Facts) (hPre_inputs_finite : Cert.Pre_inputs_finite.Facts) (hPre_na_finite : Cert.Pre_na_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ quiescent_Inp (hInp := hInp)
    ∧ quiescent_InpIdeal (hInpIdeal := hInpIdeal)
    ∧ quiescent_InpRefIdeal (hInpRefIdeal := hInpRefIdeal)
    ∧ quiescent_Ada (hAda := hAda)
    ∧ quiescent_AdaIdeal (hAdaIdeal := hAdaIdeal)
    ∧ quiescent_AdaRefIdeal (hAdaRefIdeal := hAdaRefIdeal)
    ∧ quiescent_Nbr (hNbr := hNbr)
    ∧ quiescent_NbrIdeal (hNbrIdeal := hNbrIdeal)
    ∧ quiescent_NbrIdeal_pre_na_finite (hNbrIdeal := hNbrIdeal) (hPre_na_finite := hPre_na_finite)
    ∧ quiescent_NbrRefIdeal (hNbrRefIdeal := hNbrRefIdeal)
    ∧ quiescent_NbrRefIdeal_pre_na_finite (hNbrRefIdeal := hNbrRefIdeal) (hPre_na_finite := hPre_na_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
    ∧ preserves_Inp_InpIdeal
    ∧ algebraic_InpIdeal_InpRefIdeal (hInpIdeal := hInpIdeal) (hInpRefIdeal := hInpRefIdeal)
    ∧ preserves_Ada_AdaIdeal
    ∧ algebraic_AdaIdeal_AdaRefIdeal (hAdaIdeal := hAdaIdeal) (hAdaRefIdeal := hAdaRefIdeal)
    ∧ preserves_Nbr_NbrIdeal
    ∧ algebraic_NbrIdeal_NbrRefIdeal_pre_na_finite (hNbrIdeal := hNbrIdeal) (hNbrRefIdeal := hNbrRefIdeal) (hPre_na_finite := hPre_na_finite)
-- ==== Pre_inputs_finite.lean ====
abbrev S2x8192x512 : Shape := ⟨3, ![2, 8192, 512]⟩
abbrev S2x512x8192 : Shape := ⟨3, ![2, 512, 8192]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  bcast_S_S2x512x8192 : S_.BroadcastsInDim S2x512x8192 (![] : Fin 0 → Fin S2x512x8192.rank)
  bcast_S_S1x64 : S_.BroadcastsInDim S1x64 (![] : Fin 0 → Fin S1x64.rank)

variable [Facts]

def fn_part1 {F : FTy → Type} [FloatOps F] (main_arg6 : FVec F S1x64 .f32) (main_v3 : IVec S2x8192x512 1) (main_v7 : IVec S2x8192x512 1) (main_v11 : IVec S2x512x8192 1) (main_v14 : IVec S1x64 1) (main_v17 : IVec S1x64 1) (main_v18 : FVec F S1x64 .f32) : IVec S2x8192x512 1 × IVec S2x8192x512 1 × IVec S2x512x8192 1 × IVec S1x64 1 × IVec S1x64 1 × IVec S1x64 1 × IVec S1x64 1 :=
  let main_cst_4 : FVec F S_ .f32 := constant S_ .f32 0x7F800000#32
  let main_v19 : FVec F S1x64 .f32 := broadcastInDim S1x64 ![] bcast_S_S1x64 main_cst_4
  let main_v20 : IVec S1x64 1 := cmpf .olt main_v18 main_v19
  let main_v21 : FVec F S1x64 .f32 := Host.absf main_arg6
  let main_cst_5 : FVec F S_ .f32 := constant S_ .f32 0x7F800000#32
  let main_v22 : FVec F S1x64 .f32 := broadcastInDim S1x64 ![] bcast_S_S1x64 main_cst_5
  let main_v23 : IVec S1x64 1 := cmpf .olt main_v21 main_v22
  (main_v3, main_v7, main_v11, main_v14, main_v17, main_v20, main_v23)

def fn {F : FTy → Type} [FloatOps F] (main_arg0 : FVec F S2x8192x512 .bf16) (main_arg1 : FVec F S2x8192x512 .bf16) (main_arg2 : FVec F S2x512x8192 .bf16) (main_arg3 : FVec F S1x64 .f32) (main_arg4 : FVec F S1x64 .f32) (main_arg5 : FVec F S1x64 .f32) (main_arg6 : FVec F S1x64 .f32) (main_arg7 : FVec F S1x128 .f32) : IVec S2x8192x512 1 × IVec S2x8192x512 1 × IVec S2x512x8192 1 × IVec S1x64 1 × IVec S1x64 1 × IVec S1x64 1 × IVec S1x64 1 :=
  let main_v0 : FVec F S2x8192x512 .f32 := (extf .f32 · bitsLt_bf16_f32) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_v4 : FVec F S2x8192x512 .f32 := (extf .f32 · bitsLt_bf16_f32) main_arg1
  let main_v5 : FVec F S2x8192x512 .f32 := Host.absf main_v4
  let main_cst_0 : FVec F S_ .f32 := constant S_ .f32 0x7F800000#32
  let main_v6 : FVec F S2x8192x512 .f32 := broadcastInDim S2x8192x512 ![] bcast_S_S2x8192x512 main_cst_0
  let main_v7 : IVec S2x8192x512 1 := cmpf .olt main_v5 main_v6
  let main_v8 : FVec F S2x512x8192 .f32 := (extf .f32 · bitsLt_bf16_f32) main_arg2
  let main_v9 : FVec F S2x512x8192 .f32 := Host.absf main_v8
  let main_cst_1 : FVec F S_ .f32 := constant S_ .f32 0x7F800000#32
  let main_v10 : FVec F S2x512x8192 .f32 := broadcastInDim S2x512x8192 ![] bcast_S_S2x512x8192 main_cst_1
  let main_v11 : IVec S2x512x8192 1 := cmpf .olt main_v9 main_v10
  let main_v12 : FVec F S1x64 .f32 := Host.absf main_arg3
  let main_cst_2 : FVec F S_ .f32 := constant S_ .f32 0x7F800000#32
  let main_v13 : FVec F S1x64 .f32 := broadcastInDim S1x64 ![] bcast_S_S1x64 main_cst_2
  let main_v14 : IVec S1x64 1 := cmpf .olt main_v12 main_v13
  let main_v15 : FVec F S1x64 .f32 := Host.absf main_arg4
  let main_cst_3 : FVec F S_ .f32 := constant S_ .f32 0x7F800000#32
  let main_v16 : FVec F S1x64 .f32 := broadcastInDim S1x64 ![] bcast_S_S1x64 main_cst_3
  let main_v17 : IVec S1x64 1 := cmpf .olt main_v15 main_v16
  let main_v18 : FVec F S1x64 .f32 := Host.absf main_arg5
  fn_part1 (F := F) main_arg6 main_v3 main_v7 main_v11 main_v14 main_v17 main_v18
-- ==== Pre_na_finite.lean ====
abbrev S2x8192x512 : Shape := ⟨3, ![2, 8192, 512]⟩
abbrev S15x4x64x128 : Shape := ⟨4, ![15, 4, 64, 128]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  bcast_S_S15x4x64x128 : S_.BroadcastsInDim S15x4x64x128 (![] : Fin 0 → Fin S15x4x64x128.rank)

variable [Facts]

def fn {F : FTy → Type} [FloatOps F] (main_arg0 : FVec F S2x8192x512 .bf16) (main_arg1 : FVec F S2x8192x512 .bf16) (main_arg2 : FVec F S2x8192x512 .bf16) (main_arg3 : FVec F S15x4x64x128 .f32) : IVec S2x8192x512 1 × IVec S2x8192x512 1 × IVec S15x4x64x128 1 :=
  let main_v0 : FVec F S2x8192x512 .f32 := (extf .f32 · bitsLt_bf16_f32) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_v4 : FVec F S2x8192x512 .f32 := (extf .f32 · bitsLt_bf16_f32) main_arg1
  let main_v5 : FVec F S2x8192x512 .f32 := Host.absf main_v4
  let main_cst_0 : FVec F S_ .f32 := constant S_ .f32 0x7F800000#32
  let main_v6 : FVec F S2x8192x512 .f32 := broadcastInDim S2x8192x512 ![] bcast_S_S2x8192x512 main_cst_0
  let main_v7 : IVec S2x8192x512 1 := cmpf .olt main_v5 main_v6
  let main_v8 : FVec F S15x4x64x128 .f32 := Host.absf main_arg3
  let main_cst_1 : FVec F S_ .f32 := constant S_ .f32 0x7F800000#32
  let main_v9 : FVec F S15x4x64x128 .f32 := broadcastInDim S15x4x64x128 ![] bcast_S_S15x4x64x128 main_cst_1
  let main_v10 : IVec S15x4x64x128 1 := cmpf .olt main_v8 main_v9
  (main_v3, main_v7, main_v10)
-- ==== Kernel.lean ====
abbrev S2x8192x512 : Shape := ⟨3, ![2, 8192, 512]⟩
abbrev S2x512x8192 : Shape := ⟨3, ![2, 512, 8192]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S128 : Shape := ⟨1, ![128]⟩
abbrev S1x512x128 : Shape := ⟨3, ![1, 512, 128]⟩
abbrev S1x8192x128 : Shape := ⟨3, ![1, 8192, 128]⟩
abbrev S1x128x8192 : Shape := ⟨3, ![1, 128, 8192]⟩
abbrev S2x128x512 : Shape := ⟨3, ![2, 128, 512]⟩
abbrev S512x128 : Shape := ⟨2, ![512, 128]⟩
abbrev S1x512 : Shape := ⟨2, ![1, 512]⟩
abbrev S1x128x512 : Shape := ⟨3, ![1, 128, 512]⟩
abbrev S128x512 : Shape := ⟨2, ![128, 512]⟩
abbrev S512x512 : Shape := ⟨2, ![512, 512]⟩
abbrev S512 : Shape := ⟨1, ![512]⟩
abbrev S1 : Shape := ⟨1, ![1]⟩
abbrev S1x1 : Shape := ⟨2, ![1, 1]⟩

abbrev nBuf : Space → Nat
  | .hbm => 20
  | .vmem => 11
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x512x8192, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4x64, .f32⟩
  | .hbm, ⟨17, _⟩ => ⟨S128, .f32⟩
  | .hbm, ⟨18, _⟩ => ⟨S1x128, .f32⟩
  | .hbm, ⟨19, _⟩ => ⟨S2x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S4x64, .f32⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | .local _ .vmem, ⟨10, _⟩ => ⟨S2x128x512, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v73 : BitVec 32 := Scalar.muli arg10 c512_i32
  v73
def k0_off1 (k0_t1 : Fin k0_t1_loop.trips) : Fin 3 → Nat :=
  let c0_35 : Index := 0#32
  let c0_i32 : BitVec 32 := 0#32
  let c1_i32 : BitVec 32 := 1#32
  let arg10 : BitVec 32 := Scf.iv c0_i32 c1_i32 k0_t1
  let c512_i32 : BitVec 32 := 512#32
  let v73 : BitVec 32 := Scalar.muli arg10 c512_i32
  let v74 : BitVec 32 := v73
  let v75 : Index := Scalar.indexCast v74
  let c0_36 : Index := 0#32
  ![0, v75.toNat, 0]
def k0_off2 (k0_t1 : Fin k0_t1_loop.trips) : Fin 3 → Nat :=
  let c0_37 : Index := 0#32
  let c0_38 : Index := 0#32
  let c0_i32 : BitVec 32 := 0#32
  let c1_i32 : BitVec 32 := 1#32
  let arg10 : BitVec 32 := Scf.iv c0_i32 c1_i32 k0_t1
  let c512_i32 : BitVec 32 := 512#32
  let v73 : BitVec 32 := Scalar.muli arg10 c512_i32
  let v74 : BitVec 32 := v73
  let v78 : Index := Scalar.indexCast v74
  ![0, 0, v78.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8192x512 : Shape := ⟨3, ![2, 8192, 512]⟩
abbrev S2x512x8192 : Shape := ⟨3, ![2, 512, 8192]⟩
abbrev S1x64 : Shape := ⟨2, ![1, 64]⟩
abbrev S1x128 : Shape := ⟨2, ![1, 128]⟩
abbrev S2x8192x4x2x64 : Shape := ⟨5, ![2, 8192, 4, 2, 64]⟩
abbrev S2x4x2x8192x64 : Shape := ⟨5, ![2, 4, 2, 8192, 64]⟩
abbrev S2x4x128x8192 : Shape := ⟨4, ![2, 4, 128, 8192]⟩
abbrev S2x4x8192x128 : Shape := ⟨4, ![2, 4, 8192, 128]⟩
abbrev S64 : Shape := ⟨1, ![64]⟩
abbrev S_ : Shape := ⟨0, ![]⟩
abbrev S2x4x2x8192x8192 : Shape := ⟨5, ![2, 4, 2, 8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S128 : Shape := ⟨1, ![128]⟩
abbrev S1x1x1x128 : Shape := ⟨4, ![1, 1, 1, 128]⟩

abbrev nBuf : Space → Nat
  | .hbm => 78
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x512x8192, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S2x8192x512, .f32⟩
  | .hbm, ⟨9, _⟩ => ⟨S2x8192x4x2x64, .f32⟩
  | .hbm, ⟨10, _⟩ => ⟨S2x4x2x8192x64, .f32⟩
  | .hbm, ⟨11, _⟩ => ⟨S2x8192x512, .f32⟩
  | .hbm, ⟨12, _⟩ => ⟨S2x8192x4x2x64, .f32⟩
  | .hbm, ⟨13, _⟩ => ⟨S2x4x2x8192x64, .f32⟩
  | .hbm, ⟨14, _⟩ => ⟨S2x512x8192, .f32⟩
  | .hbm, ⟨15, _⟩ => ⟨S2x4x128x8192, .f32⟩
  | .hbm, ⟨16, _⟩ => ⟨S2x4x8192x128, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x4x2x8192x8192, .f32⟩
  | .hbm, ⟨33, _⟩ => ⟨S_, .f32⟩
  | .hbm, ⟨34, _⟩ => ⟨S2x4x2x8192, .f32⟩
  | .hbm, ⟨35, _⟩ => ⟨S_, .f32⟩
  | .hbm, ⟨36, _⟩ => ⟨S2x4x2x8192, .f32⟩
  | .hbm, ⟨37, _⟩ => ⟨S2x4x2x8192, .f32⟩
  | .hbm, ⟨38, _⟩ => ⟨S2x4x2x8192x1, .f32⟩
  | .hbm, ⟨39, _⟩ => ⟨S2x4x2x8192x8192, .f32⟩
  | .hbm, ⟨40, _⟩ => ⟨S2x4x2x8192x8192, .f32⟩
  | .hbm, ⟨41, _⟩ => ⟨S2x4x2x8192x8192, .f32⟩
  | .hbm, ⟨42, _⟩ => ⟨S_, .f32⟩
  | .hbm, ⟨43, _⟩ => ⟨S2x4x2x8192, .f32⟩
  | .hbm, ⟨44, _⟩ => ⟨S2x4x2x8192x1, .f32⟩
  | .hbm, ⟨45, _⟩ => ⟨S2x4x2x8192x8192, .f32⟩
  | .hbm, ⟨46, _⟩ => ⟨S2x4x2x8192x8192, .f32⟩
  | .hbm, ⟨47, _⟩ => ⟨S2x4x1x8192x8192, .f32⟩
  | .hbm, ⟨48, _⟩ => ⟨S2x4x8192x8192, .f32⟩
  | .hbm, ⟨49, _⟩ => ⟨S2x4x1x8192x8192, .f32⟩
  | .hbm, ⟨50, _⟩ => ⟨S2x4x8192x8192, .f32⟩
  | .hbm, ⟨51, _⟩ => ⟨S2x4x8192x8192, .f32⟩
  | .hbm, ⟨52, _⟩ => ⟨S2x4x8192x8192, .f32⟩
  | .hbm, ⟨53, _⟩ => ⟨S2x4x8192x8192, .f32⟩
  | .hbm, ⟨54, _⟩ => ⟨S2x4x8192x128, .f32⟩
  | .hbm, ⟨55, _⟩ => ⟨S2x8192x4x128, .f32⟩
  | .hbm, ⟨56, _⟩ => ⟨S2x8192x4x128, .f32⟩
  | .hbm, ⟨57, _⟩ => ⟨S_, .f32⟩
  | .hbm, ⟨58, _⟩ => ⟨S2x8192x4, .f32⟩
  | .hbm, ⟨59, _⟩ => ⟨S2x8192x4x1, .f32⟩
  | .hbm, ⟨60, _⟩ => ⟨S_, .f32⟩
  | .hbm, ⟨61, _⟩ => ⟨S2x8192x4x1, .f32⟩
  | .hbm, ⟨62, _⟩ => ⟨S2x8192x4x1, .f32⟩
  | .hbm, ⟨63, _⟩ => ⟨S_, .f32⟩
  | .hbm, ⟨64, _⟩ => ⟨S2x8192x4x1, .f32⟩
  | .hbm, ⟨65, _⟩ => ⟨S2x8192x4x1, .f32⟩
  | .hbm, ⟨66, _⟩ => ⟨S2x8192x4x1, .f32⟩
  | .hbm, ⟨67, _⟩ => ⟨S2x8192x4x128, .f32⟩
  | .hbm, ⟨68, _⟩ => ⟨S2x8192x4x128, .f32⟩
  | .hbm, ⟨69, _⟩ => ⟨S128, .f32⟩
  | .hbm, ⟨70, _⟩ => ⟨S1x1x1x128, .f32⟩
  | .hbm, ⟨71, _⟩ => ⟨S2x8192x4x128, .f32⟩
  | .hbm, ⟨72, _⟩ => ⟨S2x8192x4x128, .f32⟩
  | .hbm, ⟨73, _⟩ => ⟨S_, .f32⟩
  | .hbm, ⟨74, _⟩ => ⟨S2x8192x4x128, .f32⟩
  | .hbm, ⟨75, _⟩ => ⟨S2x8192x4x128, .f32⟩
  | .hbm, ⟨76, _⟩ => ⟨S2x8192x512, .f32⟩
  | .hbm, ⟨77, _⟩ => ⟨S2x8192x512, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Ffn.lean ====
abbrev S2x8192x1024 : Shape := ⟨3, ![2, 8192, 1024]⟩
abbrev S1x1024x2816 : Shape := ⟨3, ![1, 1024, 2816]⟩
abbrev S1x2816x1024 : Shape := ⟨3, ![1, 2816, 1024]⟩
abbrev S2x1x6144 : Shape := ⟨3, ![2, 1, 6144]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S1x512x1024 : Shape := ⟨3, ![1, 512, 1024]⟩
abbrev S1x1x6144 : Shape := ⟨3, ![1, 1, 6144]⟩
abbrev S512x1024 : Shape := ⟨2, ![512, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S2x1x6144, .f32⟩
  | .hbm, ⟨6, _⟩ => ⟨S1x1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S2x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1x6144, .f32⟩
  | .local _ .vmem, ⟨8, _⟩ => ⟨S1x1x6144, .f32⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S2x8192x1024 : Shape := ⟨3, ![2, 8192, 1024]⟩
abbrev S1x1024x2816 : Shape := ⟨3, ![1, 1024, 2816]⟩
abbrev S1x2816x1024 : Shape := ⟨3, ![1, 2816, 1024]⟩
abbrev S2x1x6144 : Shape := ⟨3, ![2, 1, 6144]⟩
abbrev S1x1024 : Shape := ⟨2, ![1, 1024]⟩
abbrev S2x1x1024 : Shape := ⟨3, ![2, 1, 1024]⟩
abbrev S1024x2816 : Shape := ⟨2, ![1024, 2816]⟩
abbrev S2x8192x2816 : Shape := ⟨3, ![2, 8192, 2816]⟩
abbrev S_ : Shape := ⟨0, ![]⟩
abbrev S2816x1024 : Shape := ⟨2, ![2816, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S2x1x6144, .f32⟩
  | .hbm, ⟨6, _⟩ => ⟨S1x1024, .f32⟩
  | .hbm, ⟨7, _⟩ => ⟨S1x1024, .f32⟩
  | .hbm, ⟨8, _⟩ => ⟨S2x8192x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S1024x2816, .f32⟩
  | .hbm, ⟨16, _⟩ => ⟨S2x8192x2816, .f32⟩
  | .hbm, ⟨17, _⟩ => ⟨S2x8192x2816, .f32⟩
  | .hbm, ⟨18, _⟩ => ⟨S2x8192x2816, .f32⟩
  | .hbm, ⟨19, _⟩ => ⟨S_, .f32⟩
  | .hbm, ⟨20, _⟩ => ⟨S2x8192x2816, .f32⟩
  | .hbm, ⟨21, _⟩ => ⟨S2x8192x2816, .f32⟩
  | .hbm, ⟨22, _⟩ => ⟨S_, .f32⟩
  | .hbm, ⟨23, _⟩ => ⟨S2x8192x2816, .f32⟩
  | .hbm, ⟨24, _⟩ => ⟨S2x8192x2816, .f32⟩
  | .hbm, ⟨25, _⟩ => ⟨S2x8192x2816, .f32⟩
  | .hbm, ⟨26, _⟩ => ⟨S1024x2816, .f32⟩
  | .hbm, ⟨27, _⟩ => ⟨S2x8192x2816, .f32⟩
  | .hbm, ⟨28, _⟩ => ⟨S2x8192x2816, .f32⟩
  | .hbm, ⟨29, _⟩ => ⟨S2816x1024, .f32⟩
  | .hbm, ⟨30, _⟩ => ⟨S2x8192x1024, .f32⟩
  | .hbm, ⟨31, _⟩ => ⟨S_, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S2x8192, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x1, .f32⟩
  | .hbm, ⟨63, _⟩ => ⟨S2x8192x1024, .f32⟩
  | .hbm, ⟨64, _⟩ => ⟨S2x8192x1024, .f32⟩
  | .hbm, ⟨65, _⟩ => ⟨S1x1x1024, .f32⟩
  | .hbm, ⟨66, _⟩ => ⟨S2x8192x1024, .f32⟩
  | .hbm, ⟨67, _⟩ => ⟨S2x8192x1024, .f32⟩
  | .hbm, ⟨68, _⟩ => ⟨S1x1x1024, .f32⟩
  | .hbm, ⟨69, _⟩ => ⟨S2x8192x1024, .f32⟩
  | .hbm, ⟨70, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Out.lean ====
abbrev S2x8192x512 : Shape := ⟨3, ![2, 8192, 512]⟩
abbrev S1x1024x1024 : Shape := ⟨3, ![1, 1024, 1024]⟩
abbrev S2x8192x1024 : Shape := ⟨3, ![2, 8192, 1024]⟩
abbrev S2x1x6144 : Shape := ⟨3, ![2, 1, 6144]⟩
abbrev S1x1024 : Shape := ⟨2, ![1, 1024]⟩
abbrev S1024x1024 : Shape := ⟨2, ![1024, 1024]⟩
abbrev S1024 : Shape := ⟨1, ![1024]⟩
abbrev S1x512x512 : Shape := ⟨3, ![1, 512, 512]⟩
abbrev S1x512x1024 : Shape := ⟨3, ![1, 512, 1024]⟩
abbrev S1x1x6144 : Shape := ⟨3, ![1, 1, 6144]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S1x1024x1024, .f32⟩
  | .hbm, ⟨3, _⟩ => ⟨S2x8192x1024, .f32⟩
  | .hbm, ⟨4, _⟩ => ⟨S2x1x6144, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S2x8192x1024, .f32⟩
  | .hbm, ⟨14, _⟩ => ⟨S2x8192x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x6144, .f32⟩
  | .local _ .vmem, ⟨8, _⟩ => ⟨S1x1x6144, .f32⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutRefIdeal.lean ====
abbrev S2x8192x512 : Shape := ⟨3, ![2, 8192, 512]⟩
abbrev S1x1024x1024 : Shape := ⟨3, ![1, 1024, 1024]⟩
abbrev S2x8192x1024 : Shape := ⟨3, ![2, 8192, 1024]⟩
abbrev S2x1x6144 : Shape := ⟨3, ![2, 1, 6144]⟩
abbrev S1x1024 : Shape := ⟨2, ![1, 1024]⟩
abbrev S2x1x1024 : Shape := ⟨3, ![2, 1, 1024]⟩
abbrev S1024x1024 : Shape := ⟨2, ![1024, 1024]⟩
abbrev S_ : Shape := ⟨0, ![]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S1x1024x1024, .f32⟩
  | .hbm, ⟨3, _⟩ => ⟨S2x8192x1024, .f32⟩
  | .hbm, ⟨4, _⟩ => ⟨S2x1x6144, .f32⟩
  | .hbm, ⟨5, _⟩ => ⟨S1x1024, .f32⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x8192x512, .f32⟩
  | .hbm, ⟨14, _⟩ => ⟨S2x8192x512, .f32⟩
  | .hbm, ⟨15, _⟩ => ⟨S2x8192x1024, .f32⟩
  | .hbm, ⟨16, _⟩ => ⟨S1024x1024, .f32⟩
  | .hbm, ⟨17, _⟩ => ⟨S2x8192x1024, .f32⟩
  | .hbm, ⟨18, _⟩ => ⟨S_, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x8192, .f32⟩
  | .hbm, ⟨60, _⟩ => ⟨S2x8192x1, .f32⟩
  | .hbm, ⟨61, _⟩ => ⟨S_, .f32⟩
  | .hbm, ⟨62, _⟩ => ⟨S2x8192x1, .f32⟩
  | .hbm, ⟨63, _⟩ => ⟨S2x8192x1, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S_, .f32⟩
  | .hbm, ⟨68, _⟩ => ⟨S2x8192, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1024, .f32⟩
  | .hbm, ⟨74, _⟩ => ⟨S2x8192x1024, .f32⟩
  | .hbm, ⟨75, _⟩ => ⟨S_, .f32⟩
  | .hbm, ⟨76, _⟩ => ⟨S2x8192x1, .f32⟩
  | .hbm, ⟨77, _⟩ => ⟨S2x8192x1, .f32⟩
  | .hbm, ⟨78, _⟩ => ⟨S2x8192x1, .f32⟩
  | .hbm, ⟨79, _⟩ => ⟨S2x8192x1024, .f32⟩
  | .hbm, ⟨80, _⟩ => ⟨S2x8192x1024, .f32⟩
  | .hbm, ⟨81, _⟩ => ⟨S_, .f32⟩
  | .hbm, ⟨82, _⟩ => ⟨S2x1x1024, .f32⟩
  | .hbm, ⟨83, _⟩ => ⟨S2x1x1024, .f32⟩
  | .hbm, ⟨84, _⟩ => ⟨S2x8192x1024, .f32⟩
  | .hbm, ⟨85, _⟩ => ⟨S2x8192x1024, .f32⟩
  | .hbm, ⟨86, _⟩ => ⟨S2x8192x1024, .f32⟩
  | .hbm, ⟨87, _⟩ => ⟨S2x8192x1024, .f32⟩
  | .hbm, ⟨88, _⟩ => ⟨S2x8192x1024, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== Inp.lean ====
abbrev S2x8192x1024 : Shape := ⟨3, ![2, 8192, 1024]⟩
abbrev S2x1x6144 : Shape := ⟨3, ![2, 1, 6144]⟩
abbrev S1x1024x3072 : Shape := ⟨3, ![1, 1024, 3072]⟩
abbrev S512x128 : Shape := ⟨2, ![512, 128]⟩
abbrev S_ : Shape := ⟨0, ![]⟩
abbrev S1024x3072 : Shape := ⟨2, ![1024, 3072]⟩
abbrev S2x8192x512 : Shape := ⟨3, ![2, 8192, 512]⟩
abbrev S2x512x8192 : Shape := ⟨3, ![2, 512, 8192]⟩
abbrev S1x512x1024 : Shape := ⟨3, ![1, 512, 1024]⟩
abbrev S1x1x6144 : Shape := ⟨3, ![1, 1, 6144]⟩
abbrev S1x512x512 : Shape := ⟨3, ![1, 512, 512]⟩
abbrev S1x1x1024 : Shape := ⟨3, ![1, 1, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S512x512 : Shape := ⟨2, ![512, 512]⟩
abbrev S1x128 : Shape := ⟨2, ![1, 128]⟩
abbrev S1x512x128 : Shape := ⟨3, ![1, 512, 128]⟩

abbrev nBuf : Space → Nat
  | .hbm => 29
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S1x1024x3072, .f32⟩
  | .hbm, ⟨3, _⟩ => ⟨S512x128, .i32⟩
  | .hbm, ⟨4, _⟩ => ⟨S512x128, .f32⟩
  | .hbm, ⟨5, _⟩ => ⟨S512x128, .i32⟩
  | .hbm, ⟨6, _⟩ => ⟨S_, .i32⟩
  | .hbm, ⟨7, _⟩ => ⟨S512x128, .i32⟩
  | .hbm, ⟨8, _⟩ => ⟨S512x128, .i32⟩
  | .hbm, ⟨9, _⟩ => ⟨S512x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S1024x3072, .f32⟩
  | .hbm, ⟨22, _⟩ => ⟨S1024x3072, .bf16⟩
  | .hbm, ⟨23, _⟩ => ⟨S2x8192x512, .bf16⟩
  | .hbm, ⟨24, _⟩ => ⟨S2x8192x512, .bf16⟩
  | .hbm, ⟨25, _⟩ => ⟨S2x8192x512, .bf16⟩
  | .hbm, ⟨26, _⟩ => ⟨S2x8192x512, .bf16⟩
  | .hbm, ⟨27, _⟩ => ⟨S2x8192x512, .bf16⟩
  | .hbm, ⟨28, _⟩ => ⟨S2x512x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1024x3072, .bf16⟩
  | .local _ .vmem, ⟨5, _⟩ => ⟨S512x128, .f32⟩
  | .local _ .vmem, ⟨6, _⟩ => ⟨S512x128, .f32⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev main_v17_4 : Ref sig .tc := ⟨.hbm, 27, rfl⟩
abbrev main_v17_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== InpIdeal.lean ====
variable {F : FTy → Type} [FloatOps F] [Named F]
def κ : String → Option EReal := fun
  | "rope_rate" => some ((-((Real.log 10000) * (1 / 32)) : ℝ) : EReal)
  | _ => none
-- ==== InpRefIdeal.lean ====
abbrev S2x8192x1024 : Shape := ⟨3, ![2, 8192, 1024]⟩
abbrev S2x1x6144 : Shape := ⟨3, ![2, 1, 6144]⟩
abbrev S1x1024x3072 : Shape := ⟨3, ![1, 1024, 3072]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1024x3072 : Shape := ⟨2, ![1024, 3072]⟩
abbrev S2x8192x3072 : Shape := ⟨3, ![2, 8192, 3072]⟩
abbrev S2x8192x512 : Shape := ⟨3, ![2, 8192, 512]⟩
abbrev S2x8192x4x2x64 : Shape := ⟨5, ![2, 8192, 4, 2, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x1x32 : Shape := ⟨5, ![1, 8192, 1, 1, 32]⟩
abbrev S2x8192x4x2x32 : Shape := ⟨5, ![2, 8192, 4, 2, 32]⟩
abbrev S2x512x8192 : Shape := ⟨3, ![2, 512, 8192]⟩

abbrev nBuf : Space → Nat
  | .hbm => 130
  | .vmem => 0
  | .smem => 0
  | _ => 0

abbrev hbmTy0_0 (i : Nat) : BufTy := match i % 128 with
  | 0 => ⟨S2x8192x1024, .f32⟩
  | 1 => ⟨S2x1x6144, .f32⟩
  | 2 => ⟨S1x1024x3072, .f32⟩
  | 3 => ⟨S2x1x1024, .f32⟩
  | 4 => ⟨S2x1x1024, .f32⟩
  | 5 => ⟨S2x1x1024, .f32⟩
  | 6 => ⟨S2x1x1024, .f32⟩
  | 7 => ⟨S2x1x1024, .f32⟩
  | 8 => ⟨S2x1x1024, .f32⟩
  | 9 => ⟨S_, .f32⟩
  | 10 => ⟨S2x8192, .f32⟩
  | 11 => ⟨S2x8192x1, .f32⟩
  | 12 => ⟨S_, .f32⟩
  | 13 => ⟨S2x8192x1, .f32⟩
  | 14 => ⟨S2x8192x1, .f32⟩
  | 15 => ⟨S2x8192x1024, .f32⟩
  | 16 => ⟨S2x8192x1024, .f32⟩
  | 17 => ⟨S2x8192x1024, .f32⟩
  | 18 => ⟨S_, .f32⟩
  | 19 => ⟨S2x8192, .f32⟩
  | 20 => ⟨S2x8192x1, .f32⟩
  | 21 => ⟨S_, .f32⟩
  | 22 => ⟨S2x8192x1, .f32⟩
  | 23 => ⟨S2x8192x1, .f32⟩
  | 24 => ⟨S2x8192x1024, .f32⟩
  | 25 => ⟨S2x8192x1024, .f32⟩
  | 26 => ⟨S_, .f32⟩
  | 27 => ⟨S2x8192x1, .f32⟩
  | 28 => ⟨S2x8192x1, .f32⟩
  | 29 => ⟨S2x8192x1, .f32⟩
  | 30 => ⟨S2x8192x1024, .f32⟩
  | 31 => ⟨S2x8192x1024, .f32⟩
  | 32 => ⟨S_, .f32⟩
  | 33 => ⟨S2x1x1024, .f32⟩
  | 34 => ⟨S2x1x1024, .f32⟩
  | 35 => ⟨S2x8192x1024, .f32⟩
  | 36 => ⟨S2x8192x1024, .f32⟩
  | 37 => ⟨S2x8192x1024, .f32⟩
  | 38 => ⟨S2x8192x1024, .f32⟩
  | 39 => ⟨S1024x3072, .f32⟩
  | 40 => ⟨S2x8192x3072, .f32⟩
  | 41 => ⟨S2x8192x512, .f32⟩
  | 42 => ⟨S2x8192x512, .f32⟩
  | 43 => ⟨S2x8192x512, .f32⟩
  | 44 => ⟨S2x8192x512, .f32⟩
  | 45 => ⟨S2x8192x512, .f32⟩
  | 46 => ⟨S2x8192x512, .f32⟩
  | 47 => ⟨S2x8192x4x2x64, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S8192, .f32⟩
  | 59 => ⟨S8192x1, .f32⟩
  | 60 => ⟨S1x32, .f32⟩
  | 61 => ⟨S8192x32, .f32⟩
  | 62 => ⟨S8192x32, .f32⟩
  | 63 => ⟨S8192x32, .f32⟩
  | 64 => ⟨S8192x32, .f32⟩
  | 65 => ⟨S1x8192x1x1x32, .f32⟩
  | 66 => ⟨S8192x32, .f32⟩
  | 67 => ⟨S1x8192x1x1x32, .f32⟩
  | 68 => ⟨S2x8192x4x2x32, .f32⟩
  | 69 => ⟨S2x8192x4x2x32, .f32⟩
  | 70 => ⟨S2x8192x4x2x32, .f32⟩
  | 71 => ⟨S2x8192x4x2x32, .f32⟩
  | 72 => ⟨S2x8192x4x2x32, .f32⟩
  | 73 => ⟨S2x8192x4x2x32, .f32⟩
  | 74 => ⟨S2x8192x4x2x32, .f32⟩
  | 75 => ⟨S2x8192x4x2x32, .f32⟩
  | 76 => ⟨S2x8192x4x2x32, .f32⟩
  | 77 => ⟨S2x8192x4x2x32, .f32⟩
  | 78 => ⟨S2x8192x4x2x32, .f32⟩
  | 79 => ⟨S2x8192x4x2x32, .f32⟩
  | 80 => ⟨S2x8192x4x2x64, .f32⟩
  | 81 => ⟨S2x8192x512, .f32⟩
  | 82 => ⟨S2x8192x4x2x64, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S8192, .f32⟩
  | 94 => ⟨S8192x1, .f32⟩
  | 95 => ⟨S1x32, .f32⟩
  | 96 => ⟨S8192x32, .f32⟩
  | 97 => ⟨S8192x32, .f32⟩
  | 98 => ⟨S8192x32, .f32⟩
  | 99 => ⟨S8192x32, .f32⟩
  | 100 => ⟨S1x8192x1x1x32, .f32⟩
  | 101 => ⟨S8192x32, .f32⟩
  | 102 => ⟨S1x8192x1x1x32, .f32⟩
  | 103 => ⟨S2x8192x4x2x32, .f32⟩
  | 104 => ⟨S2x8192x4x2x32, .f32⟩
  | 105 => ⟨S2x8192x4x2x32, .f32⟩
  | 106 => ⟨S2x8192x4x2x32, .f32⟩
  | 107 => ⟨S2x8192x4x2x32, .f32⟩
  | 108 => ⟨S2x8192x4x2x32, .f32⟩
  | 109 => ⟨S2x8192x4x2x32, .f32⟩
  | 110 => ⟨S2x8192x4x2x32, .f32⟩
  | 111 => ⟨S2x8192x4x2x32, .f32⟩
  | 112 => ⟨S2x8192x4x2x32, .f32⟩
  | 113 => ⟨S2x8192x4x2x32, .f32⟩
  | 114 => ⟨S2x8192x4x2x32, .f32⟩
  | 115 => ⟨S2x8192x4x2x64, .f32⟩
  | 116 => ⟨S2x8192x512, .f32⟩
  | 117 => ⟨S_, .f32⟩
  | 118 => ⟨S2x8192x512, .f32⟩
  | 119 => ⟨S2x8192x512, .f32⟩
  | 120 => ⟨S_, .f32⟩
  | 121 => ⟨S2x8192x512, .f32⟩
  | 122 => ⟨S2x8192x512, .f32⟩
  | 123 => ⟨S2x512x8192, .f32⟩
  | 124 => ⟨S2x8192x512, .bf16⟩
  | 125 => ⟨S2x8192x512, .bf16⟩
  | 126 => ⟨S2x8192x512, .bf16⟩
  | 127 => ⟨S2x8192x512, .bf16⟩
  | _ => ⟨S2x8192x1024, .f32⟩

abbrev hbmTy0_1 (i : Nat) : BufTy := match i % 128 with
  | 0 => ⟨S2x8192x512, .bf16⟩
  | 1 => ⟨S2x512x8192, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_8 : Ref sig .tc := ⟨.hbm, 84, rfl⟩
abbrev main_v72 : Ref sig .tc := ⟨.hbm, 85, rfl⟩
abbrev main_v73 : Ref sig .tc := ⟨.hbm, 86, rfl⟩
abbrev main_cst_9 : Ref sig .tc := ⟨.hbm, 87, rfl⟩
abbrev main_v74 : Ref sig .tc := ⟨.hbm, 88, rfl⟩
abbrev main_v75 : Ref sig .tc := ⟨.hbm, 89, rfl⟩
abbrev main_cst_10 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_11 : Ref sig .tc := ⟨.hbm, 117, rfl⟩
abbrev main_v102 : Ref sig .tc := ⟨.hbm, 118, rfl⟩
abbrev main_v103 : Ref sig .tc := ⟨.hbm, 119, rfl⟩
abbrev main_cst_12 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩

abbrev nD : Nat := 1
abbrev τ : Topo := Topo.v7x

variable {F : FTy → Type} [FloatOps F]
-- ==== Ada.lean ====
abbrev S8x1024 : Shape := ⟨2, ![8, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Nbr.lean ====
abbrev S2x8192x512 : Shape := ⟨3, ![2, 8192, 512]⟩
abbrev S15x4x64x128 : Shape := ⟨4, ![15, 4, 64, 128]⟩
abbrev S1x64x512 : Shape := ⟨3, ![1, 64, 512]⟩
abbrev S1x8192x512 : Shape := ⟨3, ![1, 8192, 512]⟩
abbrev S64x128 : Shape := ⟨2, ![64, 128]⟩
abbrev S1x64x128 : Shape := ⟨3, ![1, 64, 128]⟩
abbrev S128x128 : Shape := ⟨2, ![128, 128]⟩
abbrev S1x512x128 : Shape := ⟨3, ![1, 512, 128]⟩
abbrev S512x128 : Shape := ⟨2, ![512, 128]⟩
abbrev S8x1x64x128 : Shape := ⟨4, ![8, 1, 64, 128]⟩
abbrev S8x64x128 : Shape := ⟨3, ![8, 64, 128]⟩
abbrev S128 : Shape := ⟨1, ![128]⟩
abbrev S1x128 : Shape := ⟨2, ![1, 128]⟩
abbrev S128x512 : Shape := ⟨2, ![128, 512]⟩

abbrev nBuf : Space → Nat
  | .hbm => 5
  | .vmem => 9
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S15x4x64x128, .f32⟩
  | .hbm, ⟨4, _⟩ => ⟨S2x8192x512, .bf16⟩
  | .local _ .vmem, ⟨0, _⟩ => ⟨S1x64x512, .bf16⟩
  | .local _ .vmem, ⟨1, _⟩ => ⟨S1x64x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S15x4x64x128, .f32⟩
  | .local _ .vmem, ⟨7, _⟩ => ⟨S1x64x512, .bf16⟩
  | .local _ .vmem, ⟨8, _⟩ => ⟨S1x64x512, .bf16⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 128], ![false, false]⟩

def k0_mult1 (i : grid0.Coords) : BitVec 32 :=
  let c120_i32 : BitVec 32 := 120#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c120_i32 v1
  let c64_i32 : BitVec 32 := 64#32
  let v4 : BitVec 32 := Scalar.muli v2 c64_i32
  v4
def k0_off1 (i : grid0.Coords) : Fin 3 → Nat :=
  let c0_3 : Index := 0#32
  let c120_i32 : BitVec 32 := 120#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c120_i32 v1
  let c64_i32 : BitVec 32 := 64#32
  let v4 : BitVec 32 := Scalar.muli v2 c64_i32
  let v5 : BitVec 32 := v4
  let v15 : Index := Scalar.indexCast v5
  let c0_4 : Index := 0#32
  ![0, v15.toNat, 0]
def k0_off2 (i : grid0.Coords) : Fin 4 → Nat :=
  let c7_i32 : BitVec 32 := 7#32
  let arg1 : BitVec 32 := BitVec.ofNat 32 (i 1).val
  let c120_i32 : BitVec 32 := 120#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c120_i32 v1
  let v3 : BitVec 32 := Scalar.subi arg1 v2
  let v22 : BitVec 32 := Scalar.subi c7_i32 v3
  let v23 : Index := Scalar.indexCast v22
  let c0_8 : Index := 0#32
  let c0_9 : Index := 0#32
  let c0_10 : Index := 0#32
  ![v23.toNat, 0, 0, 0]
def k0_off3 (i : grid0.Coords) : Fin 3 → Nat :=
  let c0_21 : Index := 0#32
  let c120_i32 : BitVec 32 := 120#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c120_i32 v1
  let c64_i32 : BitVec 32 := 64#32
  let v4 : BitVec 32 := Scalar.muli v2 c64_i32
  let v5 : BitVec 32 := v4
  let v55 : Index := Scalar.indexCast v5
  let c128_22 : Index := 128#32
  ![0, v55.toNat, 128]
def k0_off4 (i : grid0.Coords) : Fin 4 → Nat :=
  let c7_i32_26 : BitVec 32 := 7#32
  let arg1 : BitVec 32 := BitVec.ofNat 32 (i 1).val
  let c120_i32 : BitVec 32 := 120#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c120_i32 v1
  let v3 : BitVec 32 := Scalar.subi arg1 v2
  let v62 : BitVec 32 := Scalar.subi c7_i32_26 v3
  let v63 : Index := Scalar.indexCast v62
  let c1 : Index := 1#32
  let c0_27 : Index := 0#32
  let c0_28 : Index := 0#32
  ![v63.toNat, 1, 0, 0]
def k0_off5 (i : grid0.Coords) : Fin 3 → Nat :=
  let c0_39 : Index := 0#32
  let c120_i32 : BitVec 32 := 120#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c120_i32 v1
  let c64_i32 : BitVec 32 := 64#32
  let v4 : BitVec 32 := Scalar.muli v2 c64_i32
  let v5 : BitVec 32 := v4
  let v95 : Index := Scalar.indexCast v5
  let c256_40 : Index := 256#32
  ![0, v95.toNat, 256]
def k0_off6 (i : grid0.Coords) : Fin 4 → Nat :=
  let c7_i32_44 : BitVec 32 := 7#32
  let arg1 : BitVec 32 := BitVec.ofNat 32 (i 1).val
  let c120_i32 : BitVec 32 := 120#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c120_i32 v1
  let v3 : BitVec 32 := Scalar.subi arg1 v2
  let v102 : BitVec 32 := Scalar.subi c7_i32_44 v3
  let v103 : Index := Scalar.indexCast v102
  let c2 : Index := 2#32
  let c0_45 : Index := 0#32
  let c0_46 : Index := 0#32
  ![v103.toNat, 2, 0, 0]
def k0_off7 (i : grid0.Coords) : Fin 3 → Nat :=
  let c0_57 : Index := 0#32
  let c120_i32 : BitVec 32 := 120#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c120_i32 v1
  let c64_i32 : BitVec 32 := 64#32
  let v4 : BitVec 32 := Scalar.muli v2 c64_i32
  let v5 : BitVec 32 := v4
  let v135 : Index := Scalar.indexCast v5
  let c384_58 : Index := 384#32
  ![0, v135.toNat, 384]
def k0_off8 (i : grid0.Coords) : Fin 4 → Nat :=
  let c7_i32_62 : BitVec 32 := 7#32
  let arg1 : BitVec 32 := BitVec.ofNat 32 (i 1).val
  let c120_i32 : BitVec 32 := 120#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c120_i32 v1
  let v3 : BitVec 32 := Scalar.subi arg1 v2
  let v142 : BitVec 32 := Scalar.subi c7_i32_62 v3
  let v143 : Index := Scalar.indexCast v142
  let c3 : Index := 3#32
  let c0_63 : Index := 0#32
  let c0_64 : Index := 0#32
  ![v143.toNat, 3, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S15x4x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NbrRefIdeal.lean ====
abbrev S2x8192x512 : Shape := ⟨3, ![2, 8192, 512]⟩
abbrev S15x4x64x128 : Shape := ⟨4, ![15, 4, 64, 128]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S2x128x64x8x64 : Shape := ⟨5, ![2, 128, 64, 8, 64]⟩
abbrev S128x8x1 : Shape := ⟨3, ![128, 8, 1]⟩
abbrev S2x128x8x64x8x64 : Shape := ⟨6, ![2, 128, 8, 64, 8, 64]⟩
abbrev S15x4x64x2x64 : Shape := ⟨5, ![15, 4, 64, 2, 64]⟩
abbrev S4x2x64x15x64 : Shape := ⟨5, ![4, 2, 64, 15, 64]⟩
abbrev S8x64x15x64 : Shape := ⟨4, ![8, 64, 15, 64]⟩
abbrev S8x64x128x8x64 : Shape := ⟨5, ![8, 64, 128, 8, 64]⟩
abbrev S128x8x64x8x64 : Shape := ⟨5, ![128, 8, 64, 8, 64]⟩
abbrev S1x128x8x64x8x64 : Shape := ⟨6, ![1, 128, 8, 64, 8, 64]⟩
abbrev S2x128x8x64x512 : Shape := ⟨5, ![2, 128, 8, 64, 512]⟩
abbrev S2x128x8x64 : Shape := ⟨4, ![2, 128, 8, 64]⟩
abbrev S2x128x8x64x1 : Shape := ⟨5, ![2, 128, 8, 64, 1]⟩
abbrev S2x128x512x8x64 : Shape := ⟨5, ![2, 128, 512, 8, 64]⟩
abbrev S2x128x8x64x64 : Shape := ⟨5, ![2, 128, 8, 64, 64]⟩

abbrev nBuf : Space → Nat
  | .hbm => 68
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S15x4x64x128, .f32⟩
  | .hbm, ⟨4, _⟩ => ⟨S128, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128x1, .i32⟩
  | .hbm, ⟨17, _⟩ => ⟨S8, .i32⟩
  | .hbm, ⟨18, _⟩ => ⟨S1x8, .i32⟩
  | .hbm, ⟨19, _⟩ => ⟨S128x8, .i32⟩
  | .hbm, ⟨20, _⟩ => ⟨S128x8, .i32⟩
  | .hbm, ⟨21, _⟩ => ⟨S128x8, .i32⟩
  | .hbm, ⟨22, _⟩ => ⟨S2x8192x512, .f32⟩
  | .hbm, ⟨23, _⟩ => ⟨S2x128x64x8x64, .f32⟩
  | .hbm, ⟨24, _⟩ => ⟨S128x8x1, .i32⟩
  | .hbm, ⟨25, _⟩ => ⟨S2x128x8x64x8x64, .f32⟩
  | .hbm, ⟨26, _⟩ => ⟨S2x8192x512, .f32⟩
  | .hbm, ⟨27, _⟩ => ⟨S2x128x64x8x64, .f32⟩
  | .hbm, ⟨28, _⟩ => ⟨S128x8x1, .i32⟩
  | .hbm, ⟨29, _⟩ => ⟨S2x128x8x64x8x64, .f32⟩
  | .hbm, ⟨30, _⟩ => ⟨S15x4x64x2x64, .f32⟩
  | .hbm, ⟨31, _⟩ => ⟨S4x2x64x15x64, .f32⟩
  | .hbm, ⟨32, _⟩ => ⟨S8x64x15x64, .f32⟩
  | .hbm, ⟨33, _⟩ => ⟨S128x1, .i32⟩
  | .hbm, ⟨34, _⟩ => ⟨S128x8, .i32⟩
  | .hbm, ⟨35, _⟩ => ⟨S128x8, .i32⟩
  | .hbm, ⟨36, _⟩ => ⟨S_, .i32⟩
  | .hbm, ⟨37, _⟩ => ⟨S128x8, .i32⟩
  | .hbm, ⟨38, _⟩ => ⟨S128x8, .i32⟩
  | .hbm, ⟨39, _⟩ => ⟨S128x8x1, .i32⟩
  | .hbm, ⟨40, _⟩ => ⟨S8x64x128x8x64, .f32⟩
  | .hbm, ⟨41, _⟩ => ⟨S2x8192x512, .f32⟩
  | .hbm, ⟨42, _⟩ => ⟨S2x128x64x8x64, .f32⟩
  | .hbm, ⟨43, _⟩ => ⟨S2x128x8x64x8x64, .f32⟩
  | .hbm, ⟨44, _⟩ => ⟨S128x8x64x8x64, .f32⟩
  | .hbm, ⟨45, _⟩ => ⟨S1x128x8x64x8x64, .f32⟩
  | .hbm, ⟨46, _⟩ => ⟨S2x128x8x64x8x64, .f32⟩
  | .hbm, ⟨47, _⟩ => ⟨S2x128x8x64x8x64, .f32⟩
  | .hbm, ⟨48, _⟩ => ⟨S2x128x8x64x512, .f32⟩
  | .hbm, ⟨49, _⟩ => ⟨S_, .f32⟩
  | .hbm, ⟨50, _⟩ => ⟨S2x128x8x64, .f32⟩
  | .hbm, ⟨51, _⟩ => ⟨S_, .f32⟩
  | .hbm, ⟨52, _⟩ => ⟨S2x128x8x64, .f32⟩
  | .hbm, ⟨53, _⟩ => ⟨S2x128x8x64, .f32⟩
  | .hbm, ⟨54, _⟩ => ⟨S2x128x8x64x1, .f32⟩
  | .hbm, ⟨55, _⟩ => ⟨S2x128x8x64x512, .f32⟩
  | .hbm, ⟨56, _⟩ => ⟨S2x128x8x64x512, .f32⟩
  | .hbm, ⟨57, _⟩ => ⟨S2x128x8x64x512, .f32⟩
  | .hbm, ⟨58, _⟩ => ⟨S_, .f32⟩
  | .hbm, ⟨59, _⟩ => ⟨S2x128x8x64, .f32⟩
  | .hbm, ⟨60, _⟩ => ⟨S2x128x8x64x1, .f32⟩
  | .hbm, ⟨61, _⟩ => ⟨S2x128x8x64x512, .f32⟩
  | .hbm, ⟨62, _⟩ => ⟨S2x128x8x64x512, .f32⟩
  | .hbm, ⟨63, _⟩ => ⟨S2x128x512x8x64, .f32⟩
  | .hbm, ⟨64, _⟩ => ⟨S2x128x8x64x64, .f32⟩
  | .hbm, ⟨65, _⟩ => ⟨S2x128x64x8x64, .f32⟩
  | .hbm, ⟨66, _⟩ => ⟨S2x8192x512, .f32⟩
  | .hbm, ⟨67, _⟩ => ⟨S2x8192x512, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call2_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_call3_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Proof.Softmax.lean ====
module

public import Idealize.ShloMosaic.Lib.Pipeline.ValueKit
public import Idealize.ShloMosaic.Lib.Pointwise

@[expose] public section

/-!
Running softmax over the extended reals. A row of scores is taken a tile at a time; what is carried is a shift `m` (the
largest score so far) and sums of weights times `exp (score - m)`. The quotient of two such sums does not depend on the
shift, so it is the quotient of the sums taken in one piece under any other real shift.
-/

noncomputable section

open Idealize.ShloMosaic
open scoped BigOperators

namespace Cert.Softmax

/-- The word of minus infinity. -/
theorem ofBits_ninf : Ideal.ofBits FTy.f32 0xFF800000#32 = ⊥ := by
  simp [Ideal.ofBits, Ideal.ieee]

/-- A finite sum of reals is the sum of the reals. -/
theorem coe_sum {ι : Type*} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The exponential of a difference of reals. -/
theorem exp_sub (x y : ℝ) : Ideal.exp ((x : EReal) - (y : EReal)) = ((Real.exp (x - y) : ℝ) : EReal) := by
  rw [← EReal.coe_sub]
  rfl

/-- The largest of finitely many reals, at least one, is a real. -/
theorem fold_max_real {ι : Type*} [Fintype ι] [Nonempty ι] (f : ι → ℝ) :
    ∃ r : ℝ, Finset.fold max (⊥ : EReal) (fun i => (f i : EReal)) Finset.univ = (r : EReal) := by
  have htop : Finset.fold max (⊥ : EReal) (fun i => (f i : EReal)) Finset.univ ≠ ⊤ :=
    ((Finset.fold_max_lt _).2 ⟨bot_lt_top, fun i _ => EReal.coe_lt_top _⟩).ne
  have hbot : Finset.fold max (⊥ : EReal) (fun i => (f i : EReal)) Finset.univ ≠ ⊥ :=
    ((Finset.lt_fold_max _).2 (Or.inr ⟨Classical.arbitrary ι, Finset.mem_univ _, EReal.bot_lt_coe _⟩)).ne'
  exact ⟨_, (EReal.coe_toReal htop hbot).symm⟩

/-- `a` is the sum of the weights `v` times `exp (s - m)` over the first `n` scores, under the shift `m`; before any
score the shift is minus infinity and the sum nothing. -/
def Acc (s v : ℕ → ℝ) (n : ℕ) (m a : EReal) : Prop :=
  (n = 0 ∧ m = ⊥ ∧ a = 0) ∨
    ∃ μ : ℝ, m = (μ : EReal) ∧ a = ((∑ j ∈ Finset.range n, v j * Real.exp (s j - μ) : ℝ) : EReal)

/-- Before any score. -/
theorem acc_zero (s v : ℕ → ℝ) : Acc s v 0 ⊥ 0 := Or.inl ⟨rfl, rfl, rfl⟩

/-- One tile of `T` scores: the shift becomes the larger of itself and the tile's largest score, and the sum is scaled
to the new shift and the tile's terms added. -/
theorem acc_step {T : ℕ} [NeZero T] {s v : ℕ → ℝ} {n : ℕ} {m a : EReal} (h : Acc s v n m a) (M : EReal)
    (hM : M = max m (Finset.fold max (⊥ : EReal) (fun j : Fin T => ((s (n + j.val) : ℝ) : EReal)) Finset.univ)) :
    Acc s v (n + T) M (a * Ideal.exp (m - M)
      + ∑ j : Fin T, ((v (n + j.val) : ℝ) : EReal) * Ideal.exp (((s (n + j.val) : ℝ) : EReal) - M)) := by
  obtain ⟨r, hr⟩ := fold_max_real (fun j : Fin T => s (n + j.val))
  rw [hr] at hM
  right
  have tile : ∀ ρ : ℝ, (∑ j : Fin T, ((v (n + j.val) : ℝ) : EReal) * Ideal.exp (((s (n + j.val) : ℝ) : EReal) - ρ))
      = ((∑ j ∈ Finset.range T, v (n + j) * Real.exp (s (n + j) - ρ) : ℝ) : EReal) := by
    intro ρ
    rw [Finset.sum_range, ← coe_sum]
    refine Finset.sum_congr rfl fun j _ => ?_
    rw [exp_sub, EReal.coe_mul]
  rcases h with ⟨rfl, rfl, rfl⟩ | ⟨μ, rfl, rfl⟩
  · rw [max_eq_right bot_le] at hM
    subst hM
    refine ⟨r, rfl, ?_⟩
    rw [tile, zero_mul, zero_add, zero_add]
    simp only [zero_add]
  · have hρ : M = ((max μ r : ℝ) : EReal) := by
      rw [hM]
      exact (EReal.coe_strictMono.monotone.map_max).symm
    subst hρ
    refine ⟨max μ r, rfl, ?_⟩
    rw [tile, exp_sub, ← EReal.coe_mul, ← EReal.coe_add, Finset.sum_range_add, Finset.sum_mul]
    congr 2
    refine Finset.sum_congr rfl fun j _ => ?_
    rw [mul_assoc, ← Real.exp_add]
    congr 2
    ring

/-- A quotient of reals with a nonzero divisor. -/
theorem div_real (x : ℝ) {y : ℝ} (h : y ≠ 0) : Ideal.div (x : EReal) (y : EReal) = ((x / y : ℝ) : EReal) := by
  rw [Ideal.div_coe h, ← EReal.coe_mul, mul_one_div]

/-- The weighted sum over the plain sum, both taken tile by tile, is the softmax average under any real shift `ν`. -/
theorem acc_div {s v : ℕ → ℝ} {n : ℕ} (hn : 0 < n) {m a l : EReal} (ha : Acc s v n m a) (hl : Acc s (fun _ => 1) n m l)
    (ν : ℝ) : a * Ideal.div 1 l = ((∑ j ∈ Finset.range n, Real.exp (s j - ν)
      / (∑ j ∈ Finset.range n, Real.exp (s j - ν)) * v j : ℝ) : EReal) := by
  rcases ha with ⟨h0, -, -⟩ | ⟨μ, rfl, rfl⟩
  · omega
  rcases hl with ⟨h0, -, -⟩ | ⟨μ', hμ, rfl⟩
  · omega
  obtain rfl : μ = μ' := EReal.coe_injective hμ
  have hne : (Finset.range n).Nonempty := Finset.nonempty_range_iff.2 (by omega)
  have pos : ∀ ρ : ℝ, 0 < ∑ j ∈ Finset.range n, Real.exp (s j - ρ) := fun ρ =>
    Finset.sum_pos (fun j _ => Real.exp_pos _) hne
  have shift : ∀ j, Real.exp (s j - μ) = Real.exp (ν - μ) * Real.exp (s j - ν) := by
    intro j
    rw [← Real.exp_add]
    congr 1
    ring
  simp only [one_mul]
  rw [← EReal.coe_one, div_real 1 (pos μ).ne', ← EReal.coe_mul]
  congr 1
  rw [mul_one_div]
  simp only [shift, mul_left_comm _ (Real.exp (ν - μ)), ← Finset.mul_sum]
  rw [mul_div_mul_left _ _ (Real.exp_pos _).ne', Finset.sum_div]
  refine Finset.sum_congr rfl fun j _ => ?_
  ring

/-- Two running softmaxes against the difference of two softmaxes taken in one piece, the second weighted by the real
`c`: each under a real shift of its own, over the same `n` values `v`. -/
theorem diff_eq {s₀ s₁ v : ℕ → ℝ} {n : ℕ} (hn : 0 < n) {m₀ m₁ a₀ a₁ l₀ l₁ : EReal} (ha₀ : Acc s₀ v n m₀ a₀)
    (hl₀ : Acc s₀ (fun _ => 1) n m₀ l₀) (ha₁ : Acc s₁ v n m₁ a₁) (hl₁ : Acc s₁ (fun _ => 1) n m₁ l₁) (ν₀ ν₁ c : ℝ) :
    a₀ * Ideal.div 1 l₀ - (c : EReal) * (a₁ * Ideal.div 1 l₁)
      = ∑ j : Fin n, (Ideal.div (Ideal.exp (((s₀ j.val : ℝ) : EReal) - ν₀))
            (∑ i : Fin n, Ideal.exp (((s₀ i.val : ℝ) : EReal) - ν₀))
          - (c : EReal) * Ideal.div (Ideal.exp (((s₁ j.val : ℝ) : EReal) - ν₁))
            (∑ i : Fin n, Ideal.exp (((s₁ i.val : ℝ) : EReal) - ν₁))) * ((v j.val : ℝ) : EReal) := by
  have hne : (Finset.range n).Nonempty := Finset.nonempty_range_iff.2 (by omega)
  have total : ∀ (s : ℕ → ℝ) (ν : ℝ), (∑ i : Fin n, Ideal.exp (((s i.val : ℝ) : EReal) - ν))
      = ((∑ j ∈ Finset.range n, Real.exp (s j - ν) : ℝ) : EReal) := by
    intro s ν
    rw [Finset.sum_range, ← coe_sum]
    exact Finset.sum_congr rfl fun j _ => exp_sub _ _
  have pos : ∀ (s : ℕ → ℝ) (ν : ℝ), (∑ j ∈ Finset.range n, Real.exp (s j - ν)) ≠ 0 := fun s ν =>
    (Finset.sum_pos (fun j _ => Real.exp_pos _) hne).ne'
  rw [acc_div hn ha₀ hl₀ ν₀, acc_div hn ha₁ hl₁ ν₁, total, total]
  simp only [exp_sub]
  simp only [div_real _ (pos _ _)]
  simp only [← EReal.coe_mul]
  simp only [← EReal.coe_sub]
  simp only [← EReal.coe_mul]
  rw [coe_sum, Finset.sum_range, Finset.sum_range (fun j => Real.exp (s₁ j - ν₁) / _ * v j)]
  congr 1
  rw [Finset.mul_sum, ← Finset.sum_sub_distrib]
  refine Finset.sum_congr rfl fun j _ => ?_
  ring

end Cert.Softmax

end
-- ==== Proof.AttnTile.lean ====
module

public import proofs.«01_k».proof.Proof.Gen.KernelIdeal.Frame
public import proofs.«01_k».proof.Proof.Softmax

@[expose] public section

/-!
One tile of 512 keys of the attention kernel: what the body computes from the running maximum, the running denominator
and the running weighted sum, entry by entry, is one step of the running softmax.
-/

set_option maxRecDepth 16384

noncomputable section

open Idealize.ShloMosaic Idealize.ShloMosaic.TcCoe Idealize.SL.Sem
open scoped BigOperators
open Cert.Softmax

namespace Cert.KernelIdeal.Value

open Cert.KernelIdeal Cert.KernelIdeal.Gen

section Tile

variable (P : FVec Ideal S512x128 .bf16) (m l : FVec Ideal S1x512 .f32) (K : Vec Ideal S1x512x128 .bf16)
  (V : Vec Ideal S1x128x512 .bf16) (A : Vec Ideal S1x128x512 .f32)

/-- A tile's score of key `j` against query `q`. -/
theorem pay4_at (j q : Fin 512) :
    k0_pay4 P K (ix2 j q) = ∑ d : Fin 128, K (ix3 0 j d) * P (ix2 q d) := by
  pointwise [k0_pay4, k0_pay2]

/-- The new maximum. -/
theorem pay5_at (q : Fin 512) :
    k0_pay5 P m K (ix2 0 q) = max (m (ix2 0 q))
      (Finset.fold max (⊥ : EReal) (fun j : Fin 512 => k0_pay4 P K (ix2 j q)) Finset.univ) := by
  pointwise [k0_pay5]
  rw [ofBits_ninf]

/-- The factor that brings what is carried to the new maximum. -/
theorem pay6_at (q : Fin 512) :
    k0_pay6 P m K (ix2 0 q) = Ideal.exp (m (ix2 0 q) - k0_pay5 P m K (ix2 0 q)) := by
  pointwise [k0_pay6]

/-- A tile's exponentials. -/
theorem pay7_at (j q : Fin 512) :
    k0_pay7 P m K (ix2 j q) = Ideal.exp (k0_pay4 P K (ix2 j q) - k0_pay5 P m K (ix2 0 q)) := by
  pointwise [k0_pay7]

/-- The new denominator. -/
theorem pay8_at (q : Fin 512) :
    k0_pay8 P m l K (ix2 0 q) = k0_pay6 P m K (ix2 0 q) * l (ix2 0 q) + ∑ j : Fin 512, k0_pay7 P m K (ix2 j q) := by
  pointwise [k0_pay8]

/-- The new weighted sum. -/
theorem pay9_at (e : Fin 128) (q : Fin 512) :
    k0_pay9 P m K V A (ix3 0 e q) = A (ix3 0 e q) * k0_pay6 P m K (ix2 0 q)
      + ∑ j : Fin 512, V (ix3 0 e j) * k0_pay7 P m K (ix2 j q) := by
  pointwise [k0_pay9, k0_pay3]

variable {P m l K V A}

/-- The denominator takes one step of the running softmax with weights one. -/
theorem step_den {s : ℕ → ℝ} {n : ℕ} {q : Fin 512} (hs : ∀ j : Fin 512, k0_pay4 P K (ix2 j q) = ((s (n + j.val) : ℝ) : EReal))
    (h : Acc s (fun _ => 1) n (m (ix2 0 q)) (l (ix2 0 q))) :
    Acc s (fun _ => 1) (n + 512) (k0_pay5 P m K (ix2 0 q)) (k0_pay8 P m l K (ix2 0 q)) := by
  have key := acc_step (T := 512) h (k0_pay5 P m K (ix2 0 q)) (by rw [pay5_at]; simp only [hs])
  rw [pay8_at, pay6_at, mul_comm]
  simp only [pay7_at, hs]
  simpa only [EReal.coe_one, one_mul] using key

/-- The weighted sum takes one step of the running softmax. -/
theorem step_num {s v : ℕ → ℝ} {n : ℕ} {q : Fin 512} {e : Fin 128}
    (hs : ∀ j : Fin 512, k0_pay4 P K (ix2 j q) = ((s (n + j.val) : ℝ) : EReal))
    (hv : ∀ j : Fin 512, V (ix3 0 e j) = ((v (n + j.val) : ℝ) : EReal))
    (h : Acc s v n (m (ix2 0 q)) (A (ix3 0 e q))) :
    Acc s v (n + 512) (k0_pay5 P m K (ix2 0 q)) (k0_pay9 P m K V A (ix3 0 e q)) := by
  have key := acc_step (T := 512) h (k0_pay5 P m K (ix2 0 q)) (by rw [pay5_at]; simp only [hs])
  rw [pay9_at, pay6_at]
  simp only [pay7_at, hs, hv]
  exact key

end Tile

section Masks

variable (v0 : Vec Ideal S1x512x128 .bf16)

/-- The body's lane test: whether a lane lies in the first half. -/
theorem lane_test : ∀ d : Fin 128,
    IntOp.cmpi CmpIPredicate.slt (BitVec.ofNat 32 d.val) 64#32 = if d.val < 64 then 1#1 else 0#1 := by
  decide

/-- The query with its last 64 lanes set to zero. -/
theorem pay17_at (q : Fin 512) (d : Fin 128) :
    k0_pay17 v0 (ix2 q d) = if d.val < 64 then v0 (ix3 0 q d) else 0 := by
  pointwise [k0_pay17, k0_pay15, k0_pay16]
  rw [lane_test]
  split <;> rfl

/-- The query with its first 64 lanes set to zero. -/
theorem pay18_at (q : Fin 512) (d : Fin 128) :
    k0_pay18 v0 (ix2 q d) = if d.val < 64 then 0 else v0 (ix3 0 q d) := by
  pointwise [k0_pay18, k0_pay15, k0_pay16]
  rw [lane_test]
  split <;> rfl

end Masks

end Cert.KernelIdeal.Value

end
-- ==== Proof.AttnTrip.lean ====
module

public import proofs.«01_k».proof.Proof.AttnTile
public import Idealize.ShloMosaic.Lib.VecWindow

@[expose] public section

/-!
The attention kernel's loop over the 16 tiles of keys: after every trip the carried maxima and denominators, and the two
halves of the accumulator, are the running softmax of the keys seen so far.
-/

set_option maxRecDepth 16384

noncomputable section

open Idealize.ShloMosaic Idealize.ShloMosaic.TcCoe Idealize.SL.Sem
open scoped BigOperators
open Cert.Softmax

namespace Cert.KernelIdeal.Value

open Cert.KernelIdeal Cert.KernelIdeal.Gen

/-- What the loop carries: maximum and denominator of the first map, then of the second. -/
abbrev Carry := FVec Ideal S1x512 .f32 × FVec Ideal S1x512 .f32 × FVec Ideal S1x512 .f32 × FVec Ideal S1x512 .f32

variable (𝒱 : Variants) (c : Dev nD) (bd : Option 𝒱.V) (i : grid0.Coords)
  (arg3 : Memref sig .tc .vmem S1x512x128 .bf16) (harg3 : arg3.IsWhole)
  (arg4 : Memref sig .tc .vmem S1x8192x128 .bf16) (harg4 : arg4.IsWhole)
  (arg5 : Memref sig .tc .vmem S1x128x8192 .bf16) (harg5 : arg5.IsWhole)
  (arg6 : Memref sig .tc .vmem S4x64 .f32) (harg6 : arg6.IsWhole)
  (arg7 : Memref sig .tc .vmem S1x128 .f32) (harg7 : arg7.IsWhole)
  (arg8 : Memref sig .tc .vmem S1x512x128 .bf16) (harg8 : arg8.IsWhole)
  (arg9 : Memref sig .tc .vmem S2x128x512 .f32) (harg9 : arg9.IsWhole)
  (v0 : Vec Ideal S1x512x128 .bf16)
  (X4 : BufTy.Contents (Elt Ideal) arg4.view.ty) (X5 : BufTy.Contents (Elt Ideal) arg5.view.ty)
  (G : BufTy.Contents (Elt Ideal) arg9.view.ty) (init : Carry)

/-- Trip `k`'s tile of keys. -/
def keys (k : Fin k0_t1_loop.trips) : Vec Ideal S1x512x128 .bf16 :=
  View.readAt (Elt Ideal) arg4.view (Rect.unit (s := S1x8192x128) (k0_off1 k) S1x512x128.size (k0_off1_inb k)).toLoadRect X4

/-- Trip `k`'s tile of values. -/
def vals (k : Fin k0_t1_loop.trips) : Vec Ideal S1x128x512 .bf16 :=
  View.readAt (Elt Ideal) arg5.view (Rect.unit (s := S1x128x8192) (k0_off2 k) S1x128x512.size (k0_off2_inb k)).toLoadRect X5

/-- The first map's half of the accumulator. -/
def half0 (f : BufTy.Contents (Elt Ideal) arg9.view.ty) : Vec Ideal S1x128x512 .f32 :=
  View.readAt (Elt Ideal) arg9.view (Rect.unit (s := S2x128x512) ![0, 0, 0] S1x128x512.size inb_S2x128x512_S1x128x512_0_0_0).toLoadRect f

/-- The second map's half of the accumulator. -/
def half1 (f : BufTy.Contents (Elt Ideal) arg9.view.ty) : Vec Ideal S1x128x512 .f32 :=
  View.readAt (Elt Ideal) arg9.view (Rect.unit (s := S2x128x512) ![1, 0, 0] S1x128x512.size inb_S2x128x512_S1x128x512_1_0_0).toLoadRect f

/-- What a trip yields. -/
theorem tripR_eq (k : Fin k0_t1_loop.trips) (a : Carry) (f : BufTy.Contents (Elt Ideal) arg9.view.ty) :
    tripR_k0_t1 𝒱 c bd i arg3 harg3 arg4 harg4 arg5 harg5 arg6 harg6 arg7 harg7 arg8 harg8 arg9 harg9 v0 X4 X5 k a f
      = (k0_pay5 (k0_pay17 v0) a.1 (keys arg4 X4 k), k0_pay8 (k0_pay17 v0) a.1 a.2.1 (keys arg4 X4 k),
         k0_pay5 (k0_pay18 v0) a.2.2.1 (keys arg4 X4 k), k0_pay8 (k0_pay18 v0) a.2.2.1 a.2.2.2 (keys arg4 X4 k)) := by
  unfold tripR_k0_t1 trip_k0_t1
  dsimp only
  sl_unfold_words
  rfl

/-- What a trip stores: the two halves of the accumulator. -/
theorem tripL_eq (k : Fin k0_t1_loop.trips) (a : Carry) (f : BufTy.Contents (Elt Ideal) arg9.view.ty) :
    tripL_k0_t1 𝒱 c bd i arg3 harg3 arg4 harg4 arg5 harg5 arg6 harg6 arg7 harg7 arg8 harg8 arg9 harg9 v0 X4 X5 k a f
      = [⟨Rect.unit ![1, 0, 0] S1x128x512.size inb_S2x128x512_S1x128x512_1_0_0,
            k0_pay9 (k0_pay18 v0) a.2.2.1 (keys arg4 X4 k) (vals arg5 X5 k) (half1 arg9 f)⟩,
         ⟨Rect.unit ![0, 0, 0] S1x128x512.size inb_S2x128x512_S1x128x512_0_0_0,
            k0_pay9 (k0_pay17 v0) a.1 (keys arg4 X4 k) (vals arg5 X5 k) (half0 arg9 f)⟩] := by
  unfold tripL_k0_t1 trip_k0_t1
  dsimp only
  sl_unfold_words
  rfl

/-- After a trip's two stores each half of the accumulator holds what was stored there. -/
theorem half_writes (w₀ w₁ : Vec Ideal S1x128x512 .f32) (L : List (View.Piece (Elt Ideal) S2x128x512 .f32)) :
    half0 arg9 (arg9.view.writes (Elt Ideal) G
        ([⟨Rect.unit ![1, 0, 0] S1x128x512.size inb_S2x128x512_S1x128x512_1_0_0, w₁⟩,
          ⟨Rect.unit ![0, 0, 0] S1x128x512.size inb_S2x128x512_S1x128x512_0_0_0, w₀⟩] ++ L)) = w₀
      ∧ half1 arg9 (arg9.view.writes (Elt Ideal) G
        ([⟨Rect.unit ![1, 0, 0] S1x128x512.size inb_S2x128x512_S1x128x512_1_0_0, w₁⟩,
          ⟨Rect.unit ![0, 0, 0] S1x128x512.size inb_S2x128x512_S1x128x512_0_0_0, w₀⟩] ++ L)) = w₁ := by
  constructor
  · funext x
    unfold half0
    rw [View.readAt_eq_ld, View.ld, List.cons_append, List.cons_append]
    rw [View.read_writes_cons_unit_of_not_mem _ _ _ _ _ _ rfl 0 (Or.inl ?_),
      View.read_writes_cons_unit_of_mem _ _ _ _ _ _ x rfl (fun a => Rect.idx_unit_val _ _ _ x a)]
    have := (x 0).isLt
    rw [Rect.idx_unit_val]
    show 0 + (x 0).val < 1
    have h : S1x128x512.size 0 = 1 := rfl
    omega
  · funext x
    unfold half1
    rw [View.readAt_eq_ld, View.ld, List.cons_append]
    rw [View.read_writes_cons_unit_of_mem _ _ _ _ _ _ x rfl (fun a => Rect.idx_unit_val _ _ _ x a)]

/-- The state before trip `k`. -/
abbrev st (k : ℕ) : Carry × List (View.Piece (Elt Ideal) S2x128x512 .f32) :=
  st_k0_t1 𝒱 c bd i arg3 harg3 arg4 harg4 arg5 harg5 arg6 harg6 arg7 harg7 arg8 harg8 arg9 harg9 v0 X4 X5 G init k

/-- Before trip `k` the carried values and the accumulator are the running softmax of the first `512 * k` keys, for both
    maps, every query and every lane. -/
theorem invariant (s₀ s₁ : Fin 512 → ℕ → ℝ) (v : Fin 128 → ℕ → ℝ)
    (hinit : init = (k0_pay20, k0_pay21, k0_pay20, k0_pay21)) (hG₀ : ∀ y, half0 arg9 G y = 0) (hG₁ : ∀ y, half1 arg9 G y = 0)
    (hs₀ : ∀ (k : Fin k0_t1_loop.trips) (j q : Fin 512),
      k0_pay4 (k0_pay17 v0) (keys arg4 X4 k) (ix2 j q) = ((s₀ q (512 * k.val + j.val) : ℝ) : EReal))
    (hs₁ : ∀ (k : Fin k0_t1_loop.trips) (j q : Fin 512),
      k0_pay4 (k0_pay18 v0) (keys arg4 X4 k) (ix2 j q) = ((s₁ q (512 * k.val + j.val) : ℝ) : EReal))
    (hv : ∀ (k : Fin k0_t1_loop.trips) (e : Fin 128) (j : Fin 512),
      vals arg5 X5 k (ix3 0 e j) = ((v e (512 * k.val + j.val) : ℝ) : EReal))
    (k : ℕ) (hk : k ≤ k0_t1_loop.trips) (q : Fin 512) :
    let S := st 𝒱 c bd i arg3 harg3 arg4 harg4 arg5 harg5 arg6 harg6 arg7 harg7 arg8 harg8 arg9 harg9 v0 X4 X5 G init k
    let f := arg9.view.writes (Elt Ideal) G S.2
    (Acc (s₀ q) (fun _ => 1) (512 * k) (S.1.1 (ix2 0 q)) (S.1.2.1 (ix2 0 q))
        ∧ ∀ e, Acc (s₀ q) (v e) (512 * k) (S.1.1 (ix2 0 q)) (half0 arg9 f (ix3 0 e q)))
      ∧ (Acc (s₁ q) (fun _ => 1) (512 * k) (S.1.2.2.1 (ix2 0 q)) (S.1.2.2.2 (ix2 0 q))
        ∧ ∀ e, Acc (s₁ q) (v e) (512 * k) (S.1.2.2.1 (ix2 0 q)) (half1 arg9 f (ix3 0 e q))) := by
  induction k with
  | zero =>
    have h20 : (k0_pay20 : FVec Ideal S1x512 .f32) (ix2 0 q) = (⊥ : EReal) := by
      pointwise [k0_pay20]
      exact ofBits_ninf
    have h21 : (k0_pay21 : FVec Ideal S1x512 .f32) (ix2 0 q) = (0 : EReal) := by
      pointwise [k0_pay21]
    subst hinit
    show (Acc _ _ 0 ((k0_pay20 : FVec Ideal S1x512 .f32) (ix2 0 q)) ((k0_pay21 : FVec Ideal S1x512 .f32) (ix2 0 q)) ∧ ∀ e, Acc _ _ 0 ((k0_pay20 : FVec Ideal S1x512 .f32) (ix2 0 q)) (half0 arg9 G (ix3 0 e q)))
      ∧ (Acc _ _ 0 ((k0_pay20 : FVec Ideal S1x512 .f32) (ix2 0 q)) ((k0_pay21 : FVec Ideal S1x512 .f32) (ix2 0 q)) ∧ ∀ e, Acc _ _ 0 ((k0_pay20 : FVec Ideal S1x512 .f32) (ix2 0 q)) (half1 arg9 G (ix3 0 e q)))
    rw [h20, h21]
    simp only [hG₀, hG₁]
    exact ⟨⟨acc_zero _ _, fun e => acc_zero _ _⟩, ⟨acc_zero _ _, fun e => acc_zero _ _⟩⟩
  | succ n ih =>
    have hn : n < k0_t1_loop.trips := hk
    obtain ⟨⟨d0, a0⟩, ⟨d1, a1⟩⟩ := ih (Nat.le_of_lt hn)
    intro S f
    have hS : S = _ := st_k0_t1_succ 𝒱 c bd i arg3 harg3 arg4 harg4 arg5 harg5 arg6 harg6 arg7 harg7 arg8 harg8 arg9 harg9
      v0 X4 X5 G init ⟨n, hn⟩
    rw [tripR_eq, tripL_eq] at hS
    have hf : f = arg9.view.writes (Elt Ideal) G S.2 := rfl
    clear_value S f
    subst hS
    subst hf
    rw [Nat.mul_succ]
    refine ⟨⟨step_den (hs₀ ⟨n, hn⟩ · q) d0, fun e => ?_⟩, ⟨step_den (hs₁ ⟨n, hn⟩ · q) d1, fun e => ?_⟩⟩
    · rw [(half_writes arg9 G _ _ _).1]
      exact step_num (hs₀ ⟨n, hn⟩ · q) (hv ⟨n, hn⟩ e) (a0 e)
    · rw [(half_writes arg9 G _ _ _).2]
      exact step_num (hs₁ ⟨n, hn⟩ · q) (hv ⟨n, hn⟩ e) (a1 e)

end Cert.KernelIdeal.Value

end
-- ==== Proof.AttnRef.lean ====
module

public import proofs.«01_k».proof.Proof.Gen.ReferenceIdeal.Run
public import proofs.«01_k».proof.Proof.Softmax
public import Idealize.ShloMosaic.Lib.Pipeline.ValueKit
public import Idealize.ShloMosaic.Lib.Pointwise

@[expose] public section

/-!
The attention reference, entry by entry.
-/

set_option maxRecDepth 16384

noncomputable section

open Idealize.ShloMosaic Idealize.ShloMosaic.TcCoe Idealize.SL.Sem
open scoped BigOperators
open Cert.Softmax

namespace Cert.ReferenceIdeal.Value

open Cert.ReferenceIdeal Cert.ReferenceIdeal.Gen

/-- Queries or keys, split into heads and the two maps of a head. -/
def split (x : FVec Ideal S2x8192x512 .bf16) : FVec Ideal S2x4x2x8192x64 .f32 :=
  transpose S2x4x2x8192x64 [0, 2, 3, 1, 4] (shapeCast _ (extf .f32 x bitsLt_bf16_f32) shapeCasts_S2x8192x512_S2x8192x4x2x64)
    transposes_S2x8192x4x2x64_S2x4x2x8192x64_0_2_3_1_4

/-- The scores. -/
def scores (q k : FVec Ideal S2x4x2x8192x64 .f32) : FVec Ideal S2x4x2x8192x8192 .f32 :=
  Host.dotGeneral dot_S2x4x2x8192x64_S2x4x2x8192x64_S2x4x2x8192x8192_4_4_3_3_012_012 none q k

/-- The largest score of each query. -/
def largest (s : FVec Ideal S2x4x2x8192x8192 .f32) : FVec Ideal S2x4x2x8192 .f32 :=
  maximumf (broadcastInDim S2x4x2x8192 ![] bcast_S_S2x4x2x8192 (constant S_ .f32 0xFF800000#32))
    (Host.reduce FloatOps.maximumf s (constant S_ .f32 0xFF800000#32) reducesTo_S2x4x2x8192x8192_S2x4x2x8192_d4 h_S_)

/-- One number per query, repeated along the keys. -/
def along (r : FVec Ideal S2x4x2x8192 .f32) : FVec Ideal S2x4x2x8192x8192 .f32 :=
  broadcastInDim S2x4x2x8192x8192 ![0, 1, 2, 3, 4] bcast_S2x4x2x8192x1_S2x4x2x8192x8192_0_1_2_3_4
    (broadcastInDim S2x4x2x8192x1 ![0, 1, 2, 3] bcast_S2x4x2x8192_S2x4x2x8192x1_0_1_2_3 r)

/-- The exponentials of a query's scores less the largest. -/
def exps (s : FVec Ideal S2x4x2x8192x8192 .f32) : FVec Ideal S2x4x2x8192x8192 .f32 :=
  Host.exp (subf s (along (largest s)))

/-- The softmax of an array of exponentials: each divided by its query's sum. -/
def weights (x : FVec Ideal S2x4x2x8192x8192 .f32) : FVec Ideal S2x4x2x8192x8192 .f32 :=
  Host.divf x (along (Host.reduceAdd x (constant S_ .f32 0x00000000#32) reducesTo_S2x4x2x8192x8192_S2x4x2x8192_d4 h_S_))

/-- The factor of the second map. -/
def lambda (a b c d : FVec Ideal S1x64 .f32) : FVec Ideal S_ .f32 :=
  addf (subf (Host.exp (Host.reduceAdd (mulf (shapeCast _ a shapeCasts_S1x64_S64) (shapeCast _ b shapeCasts_S1x64_S64))
      (constant S_ .f32 0x00000000#32) reducesTo_S64_S_d0 h_S_))
    (Host.exp (Host.reduceAdd (mulf (shapeCast _ c shapeCasts_S1x64_S64) (shapeCast _ d shapeCasts_S1x64_S64))
      (constant S_ .f32 0x00000000#32) reducesTo_S64_S_d0 h_S_))) (constant S_ .f32 0x3E4CCCCD#32)

/-- The first map less `l` times the second. -/
def differ (p : FVec Ideal S2x4x2x8192x8192 .f32) (l : FVec Ideal S_ .f32) : FVec Ideal S2x4x8192x8192 .f32 :=
  subf (shapeCast _ (extractStridedSlice S2x4x1x8192x8192 ![0, 0, 0, 0, 0] p slices_S2x4x2x8192x8192_S2x4x1x8192x8192_0_0_0_0_0)
      shapeCasts_S2x4x1x8192x8192_S2x4x8192x8192)
    (mulf (broadcastInDim S2x4x8192x8192 ![] bcast_S_S2x4x8192x8192 l)
      (shapeCast _ (extractStridedSlice S2x4x1x8192x8192 ![0, 0, 1, 0, 0] p slices_S2x4x2x8192x8192_S2x4x1x8192x8192_0_0_1_0_0)
        shapeCasts_S2x4x1x8192x8192_S2x4x8192x8192))

/-- The values summed with the differential weights. -/
def summed (a : FVec Ideal S2x4x8192x8192 .f32) (vt : FVec Ideal S2x512x8192 .bf16) : FVec Ideal S2x8192x4x128 .f32 :=
  transpose S2x8192x4x128 [0, 2, 1, 3]
    (Host.dotGeneral dot_S2x4x8192x8192_S2x4x8192x128_S2x4x8192x128_3_2_2_3_01_01 none a
      (transpose S2x4x8192x128 [0, 1, 3, 2] (shapeCast _ (extf .f32 vt bitsLt_bf16_f32) shapeCasts_S2x512x8192_S2x4x128x8192)
        transposes_S2x4x128x8192_S2x4x8192x128_0_1_3_2)) transposes_S2x4x8192x128_S2x8192x4x128_0_2_1_3

/-- The norm of every head, the gain, the constant factor, and the change of format. -/
def finish (o : FVec Ideal S2x8192x4x128 .f32) (g : FVec Ideal S1x128 .f32) : FVec Ideal S2x8192x512 .bf16 :=
  truncf .bf16 (shapeCast _ (mulf (mulf (mulf o (broadcastInDim S2x8192x4x128 ![0, 1, 2, 3] bcast_S2x8192x4x1_S2x8192x4x128_0_1_2_3
      (Host.rsqrt (addf (Host.divf (broadcastInDim S2x8192x4x1 ![0, 1, 2] bcast_S2x8192x4_S2x8192x4x1_0_1_2
        (Host.reduceAdd (mulf o o) (constant S_ .f32 0x00000000#32) reducesTo_S2x8192x4x128_S2x8192x4_d3 h_S_))
        (broadcastInDim S2x8192x4x1 ![] bcast_S_S2x8192x4x1 (constant S_ .f32 0x43000000#32)))
        (broadcastInDim S2x8192x4x1 ![] bcast_S_S2x8192x4x1 (constant S_ .f32 0x3727C5AC#32))))))
    (broadcastInDim S2x8192x4x128 ![0, 1, 2, 3] bcast_S1x1x1x128_S2x8192x4x128_0_1_2_3
      (broadcastInDim S1x1x1x128 ![3] bcast_S128_S1x1x1x128_3 (shapeCast _ g shapeCasts_S1x128_S128))))
    (broadcastInDim S2x8192x4x128 ![] bcast_S_S2x8192x4x128 (constant S_ .f32 0x3F4CCCCD#32)))
    shapeCasts_S2x8192x4x128_S2x8192x512) bitsLt_bf16_f32

/-- The split at an index. -/
theorem split_at (x : FVec Ideal S2x8192x512 .bf16) (b : Fin 2) (h : Fin 4) (i : Fin 2) (s : Fin 8192) (d : Fin 64) :
    split x (ix5 b h i s d) = x (ix3 b s ⟨h.val * 128 + i.val * 64 + d.val, by omega⟩) := by
  pointwise [split]

/-- The scores at an index. -/
theorem scores_at (q k : FVec Ideal S2x4x2x8192x64 .f32) (b : Fin 2) (h : Fin 4) (i : Fin 2) (s t : Fin 8192) :
    scores q k (ix5 b h i s t) = ∑ d : Fin 64, q (ix5 b h i s d) * k (ix5 b h i t d) := by
  pointwise [scores]

/-- A maximum along the last of five axes, not below the least value, at an index. -/
theorem reduceMax_at {n0 n1 n2 n3 n4 : ℕ} (x : FVec Ideal (⟨5, ![n0, n1, n2, n3, n4]⟩ : Shape) .f32)
    (hb : S_.BroadcastsInDim (⟨4, ![n0, n1, n2, n3]⟩ : Shape) ![])
    (hr : (⟨5, ![n0, n1, n2, n3, n4]⟩ : Shape).ReducesTo [4] (⟨4, ![n0, n1, n2, n3]⟩ : Shape)) (hu : 0 < S_.numel)
    (a : Fin n0) (b : Fin n1) (c : Fin n2) (d : Fin n3) :
    maximumf (broadcastInDim (⟨4, ![n0, n1, n2, n3]⟩ : Shape) ![] hb (constant S_ .f32 0xFF800000#32))
        (Host.reduce FloatOps.maximumf x (constant S_ .f32 0xFF800000#32) hr hu) (ix4 a b c d)
      = Finset.fold max (⊥ : EReal) (fun t : Fin n4 => x (ix5 a b c d t)) Finset.univ := by
  pointwise []
  rw [ofBits_ninf]
  exact max_eq_right bot_le

/-- The largest score at an index. -/
theorem largest_at (s : FVec Ideal S2x4x2x8192x8192 .f32) (b : Fin 2) (h : Fin 4) (i : Fin 2) (q : Fin 8192) :
    largest s (ix4 b h i q) = Finset.fold max (⊥ : EReal) (fun t : Fin 8192 => s (ix5 b h i q t)) Finset.univ :=
  reduceMax_at (n0 := 2) (n1 := 4) (n2 := 2) (n3 := 8192) (n4 := 8192) s bcast_S_S2x4x2x8192
    reducesTo_S2x4x2x8192x8192_S2x4x2x8192_d4 h_S_ b h i q

/-- The exponentials at an index. -/
theorem exps_at (s : FVec Ideal S2x4x2x8192x8192 .f32) (b : Fin 2) (h : Fin 4) (i : Fin 2) (q t : Fin 8192) :
    exps s (ix5 b h i q t) = Ideal.exp (s (ix5 b h i q t) - largest s (ix4 b h i q)) := by
  pointwise [exps, along]

/-- The softmax at an index. -/
theorem weights_at (x : FVec Ideal S2x4x2x8192x8192 .f32) (b : Fin 2) (h : Fin 4) (i : Fin 2) (q t : Fin 8192) :
    weights x (ix5 b h i q t) = Ideal.div (x (ix5 b h i q t)) (∑ k : Fin 8192, x (ix5 b h i q k)) := by
  pointwise [weights, along]

/-- The factor of the second map. -/
theorem lambda_at (a b c d : FVec Ideal S1x64 .f32) :
    lambda a b c d ix0 = Ideal.exp (∑ x : Fin 64, a (ix2 0 x) * b (ix2 0 x))
      - Ideal.exp (∑ x : Fin 64, c (ix2 0 x) * d (ix2 0 x)) + Ideal.ofBits FTy.f32 0x3E4CCCCD#32 := by
  pointwise [lambda]

/-- The difference of the two maps at an index. -/
theorem differ_at (p : FVec Ideal S2x4x2x8192x8192 .f32) (l : FVec Ideal S_ .f32) (b : Fin 2) (h : Fin 4) (q t : Fin 8192) :
    differ p l (ix4 b h q t) = p (ix5 b h 0 q t) - l ix0 * p (ix5 b h 1 q t) := by
  pointwise [differ]

/-- The weighted sum of the values at an index. -/
theorem summed_at (a : FVec Ideal S2x4x8192x8192 .f32) (vt : FVec Ideal S2x512x8192 .bf16) (b : Fin 2) (s : Fin 8192)
    (h : Fin 4) (e : Fin 128) :
    summed a vt (ix4 b s h e) = ∑ t : Fin 8192, a (ix4 b h s t) * vt (ix3 b ⟨h.val * 128 + e.val, by omega⟩ t) := by
  pointwise [summed]

/-- The norm, the gain and the constant factor at an index. -/
theorem finish_at (o : FVec Ideal S2x8192x4x128 .f32) (g : FVec Ideal S1x128 .f32) (b : Fin 2) (s : Fin 8192)
    (h : Fin 4) (e : Fin 128) :
    finish o g (ix3 b s ⟨h.val * 128 + e.val, by omega⟩) = o (ix4 b s h e)
      * Ideal.rsqrt (Ideal.div (∑ x : Fin 128, o (ix4 b s h x) * o (ix4 b s h x)) (Ideal.ofBits FTy.f32 0x43000000#32)
        + Ideal.ofBits FTy.f32 0x3727C5AC#32) * g (ix2 0 e) * Ideal.ofBits FTy.f32 0x3F4CCCCD#32 := by
  pointwise [finish]

/-- The score of key `t` against query `s` in map `i` of head `h`. -/
def score (q k : FVec Ideal S2x8192x512 .bf16) (b : Fin 2) (h : Fin 4) (i : Fin 2) (s t : Fin 8192) : EReal :=
  ∑ d : Fin 64, q (ix3 b s ⟨h.val * 128 + i.val * 64 + d.val, by omega⟩)
    * k (ix3 b t ⟨h.val * 128 + i.val * 64 + d.val, by omega⟩)

/-- Entry `t` of the softmax of a row of scores. -/
def softmax (f : Fin 8192 → EReal) (t : Fin 8192) : EReal :=
  Ideal.div (Ideal.exp (f t - Finset.fold max (⊥ : EReal) f Finset.univ))
    (∑ k : Fin 8192, Ideal.exp (f k - Finset.fold max (⊥ : EReal) f Finset.univ))

/-- The differential average of a row of values: the first map's softmax less `l` times the second's. -/
def average (f₀ f₁ : Fin 8192 → EReal) (l : EReal) (v : Fin 8192 → EReal) : EReal :=
  ∑ t : Fin 8192, (softmax f₀ t - l * softmax f₁ t) * v t

/-- The factor of the second map, from the four vectors. -/
def factor (a b c d : Fin 64 → EReal) : EReal :=
  Ideal.exp (∑ x : Fin 64, a x * b x) - Ideal.exp (∑ x : Fin 64, c x * d x) + Ideal.ofBits FTy.f32 0x3E4CCCCD#32

/-- A head's row brought to mean square one, with the gain and the constant factor. -/
def rms (f : Fin 128 → EReal) (g : EReal) (e : Fin 128) : EReal :=
  f e * Ideal.rsqrt (Ideal.div (∑ x : Fin 128, f x * f x) (Ideal.ofBits FTy.f32 0x43000000#32)
    + Ideal.ofBits FTy.f32 0x3727C5AC#32) * g * Ideal.ofBits FTy.f32 0x3F4CCCCD#32

/-- The result at batch `b`, token `s`, head `h` and lane `e`. -/
def out (q k : FVec Ideal S2x8192x512 .bf16) (vt : FVec Ideal S2x512x8192 .bf16) (l₀ l₁ l₂ l₃ : FVec Ideal S1x64 .f32)
    (g : FVec Ideal S1x128 .f32) (b : Fin 2) (s : Fin 8192) (h : Fin 4) (e : Fin 128) : EReal :=
  rms (fun x => average (score q k b h 0 s) (score q k b h 1 s)
      (factor (fun x => l₀ (ix2 0 x)) (fun x => l₁ (ix2 0 x)) (fun x => l₂ (ix2 0 x)) (fun x => l₃ (ix2 0 x)))
      (fun t => vt (ix3 b ⟨h.val * 128 + x.val, by omega⟩ t))) (g (ix2 0 e)) e

/-- The result as an array: column `n` is lane `n % 128` of head `n / 128`. -/
def OUT (q k : FVec Ideal S2x8192x512 .bf16) (vt : FVec Ideal S2x512x8192 .bf16) (l₀ l₁ l₂ l₃ : FVec Ideal S1x64 .f32)
    (g : FVec Ideal S1x128 .f32) : FVec Ideal S2x8192x512 .bf16 := fun i =>
  out q k vt l₀ l₁ l₂ l₃ g (i 0) (i 1)
    ⟨(i 2).val / 128, by have := (i 2).isLt; change (i 2).val < 512 at this; omega⟩ ⟨(i 2).val % 128, by omega⟩

/-- The array's entry in the column of a head and a lane. -/
theorem OUT_at (q k : FVec Ideal S2x8192x512 .bf16) (vt : FVec Ideal S2x512x8192 .bf16) (l₀ l₁ l₂ l₃ : FVec Ideal S1x64 .f32)
    (g : FVec Ideal S1x128 .f32) (b : Fin 2) (s : Fin 8192) (h : Fin 4) (e : Fin 128) :
    OUT q k vt l₀ l₁ l₂ l₃ g (ix3 b s ⟨h.val * 128 + e.val, by omega⟩) = out q k vt l₀ l₁ l₂ l₃ g b s h e := by
  have hh : (⟨(h.val * 128 + e.val) / 128, by omega⟩ : Fin 4) = h := Fin.ext (by show _ / 128 = _; omega)
  have he : (⟨(h.val * 128 + e.val) % 128, by omega⟩ : Fin 128) = e := Fin.ext (by show _ % 128 = _; omega)
  show out q k vt l₀ l₁ l₂ l₃ g b s ⟨(h.val * 128 + e.val) / 128, _⟩ ⟨(h.val * 128 + e.val) % 128, _⟩ = _
  rw [hh, he]

/-- The chain of the parts at an index. -/
theorem chain_at (q k : FVec Ideal S2x8192x512 .bf16) (vt : FVec Ideal S2x512x8192 .bf16) (l₀ l₁ l₂ l₃ : FVec Ideal S1x64 .f32)
    (g : FVec Ideal S1x128 .f32) (b : Fin 2) (s : Fin 8192) (h : Fin 4) (e : Fin 128) :
    finish (summed (differ (weights (exps (scores (split q) (split k)))) (lambda l₀ l₁ l₂ l₃)) vt) g
        (ix3 b s ⟨h.val * 128 + e.val, by omega⟩) = out q k vt l₀ l₁ l₂ l₃ g b s h e := by
  rw [finish_at]
  simp only [summed_at, differ_at, weights_at, exps_at, largest_at, scores_at, split_at, lambda_at]
  rfl

section
variable (m : (ℓ : Loc nD τ sig) → Buf (Elt Ideal) ℓ) (c : Dev nD)

/-- The result's composed term is the chain of the parts. -/
theorem res_parts : res_main_v59 m c
    = finish (summed (differ (weights (exps (scores (split (m ((c.tc : Thread nD τ).loc main_arg0)))
        (split (m ((c.tc : Thread nD τ).loc main_arg1))))))
        (lambda (m ((c.tc : Thread nD τ).loc main_arg3)) (m ((c.tc : Thread nD τ).loc main_arg4))
          (m ((c.tc : Thread nD τ).loc main_arg5)) (m ((c.tc : Thread nD τ).loc main_arg6))))
        (m ((c.tc : Thread nD τ).loc main_arg2))) (m ((c.tc : Thread nD τ).loc main_arg7)) := rfl

/-- The reference's result is `OUT` of its arguments. -/
theorem res_eq : res_main_v59 m c
    = OUT (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  rw [res_parts]
  funext i
  obtain ⟨b, s, n, rfl⟩ : ∃ (b : Fin 2) (s : Fin 8192) (n : Fin 512), i = ix3 b s n := ⟨i 0, i 1, i 2, eq_ix3 i⟩
  obtain ⟨h, e, rfl⟩ : ∃ (h : Fin 4) (e : Fin 128), n = ⟨h.val * 128 + e.val, by omega⟩ :=
    ⟨⟨n.val / 128, by omega⟩, ⟨n.val % 128, by omega⟩, Fin.ext (by show n.val = n.val / 128 * 128 + n.val % 128; omega)⟩
  rw [OUT_at]
  exact chain_at _ _ _ _ _ _ _ _ b s h e

end

end Cert.ReferenceIdeal.Value

end
-- ==== Proof.AttnOut.lean ====
module

public import proofs.«01_k».proof.Proof.AttnTrip
public import proofs.«01_k».proof.Proof.AttnRef
public import Idealize.ShloMosaic.Lib.Pointwise

@[expose] public section

/-!
What the attention kernel's body stores at one grid point, entry by entry, when queries, keys, values and the four lambda
vectors are real: the reference's formula over the point's blocks.
-/

set_option maxRecDepth 16384

noncomputable section

open Idealize.ShloMosaic Idealize.ShloMosaic.TcCoe Idealize.SL.Sem
open scoped BigOperators
open Cert.Softmax

namespace Cert.KernelIdeal.Value

open Cert.KernelIdeal Cert.KernelIdeal.Gen
open Cert.ReferenceIdeal.Value (softmax average factor rms)

/-- The loop makes 16 trips. -/
theorem trips_eq : k0_t1_loop.trips = 16 := by decide +kernel

/-- The constant part of the second map's factor is a real number. -/
theorem init_real : ∃ r : ℝ, Ideal.ofBits FTy.f32 0x3E4CCCCD#32 = (r : EReal) := by
  show ∃ r : ℝ, Ideal.ieee 8 23 (0x3E4CCCCD#32) = (r : EReal)
  unfold Ideal.ieee
  dsimp only
  rw [if_neg (by decide), if_neg (by decide)]
  exact ⟨_, rfl⟩

/-- The factor of the second map is real when the four vectors are. -/
theorem factor_real (a b c d : Fin 64 → ℝ) : ∃ r : ℝ, factor (fun x => (a x : EReal)) (fun x => (b x : EReal))
    (fun x => (c x : EReal)) (fun x => (d x : EReal)) = (r : EReal) := by
  obtain ⟨r, hr⟩ := init_real
  unfold factor
  simp only [← EReal.coe_mul]
  rw [coe_sum, coe_sum, hr]
  refine ⟨Real.exp (∑ x, a x * b x) - Real.exp (∑ x, c x * d x) + r, ?_⟩
  rw [EReal.coe_add, EReal.coe_sub]
  rfl

/-- The stored entry from the two denominators, the two halves of the accumulator, the lambda vectors and the gain. -/
theorem pay_at (l₀ l₁ : FVec Ideal S1x512 .f32) (a b c d : Vec Ideal S1x64 .f32) (A₀ A₁ : Vec Ideal S1x128x512 .f32)
    (g : Vec Ideal S1x128 .f32) (r : Fin 512) (e : Fin 128) :
    k0_pay1 (k0_pay26 l₀ l₁ (k0_pay24 a b) (k0_pay25 c d) A₀ A₁ g) (ix3 0 r e)
      = rms (fun x => A₀ (ix3 0 x r) * Ideal.div 1 (l₀ (ix2 0 r))
          - factor (fun x => a (ix2 0 x)) (fun x => b (ix2 0 x)) (fun x => c (ix2 0 x)) (fun x => d (ix2 0 x))
            * (A₁ (ix3 0 x r) * Ideal.div 1 (l₁ (ix2 0 r)))) (g (ix2 0 e)) e := by
  pointwise [k0_pay1, k0_pay26, k0_pay24, k0_pay25, rms, factor]

section Run

variable (c : Dev nD) (i : grid0.Coords)
  (arg3 : Memref sig .tc .vmem S1x512x128 .bf16) (harg3 : arg3.IsWhole)
  (arg4 : Memref sig .tc .vmem S1x8192x128 .bf16) (harg4 : arg4.IsWhole)
  (arg5 : Memref sig .tc .vmem S1x128x8192 .bf16) (harg5 : arg5.IsWhole)
  (arg6 : Memref sig .tc .vmem S4x64 .f32) (harg6 : arg6.IsWhole)
  (arg7 : Memref sig .tc .vmem S1x128 .f32) (harg7 : arg7.IsWhole)
  (arg8 : Memref sig .tc .vmem S1x512x128 .bf16) (harg8 : arg8.IsWhole)
  (arg9 : Memref sig .tc .vmem S2x128x512 .f32) (harg9 : arg9.IsWhole)
  (x0 : Vec Ideal S1x512x128 .bf16) (x1 : Vec Ideal S1x8192x128 .bf16) (x2 : Vec Ideal S1x128x8192 .bf16)
  (x3 : Vec Ideal S4x64 .f32) (x4 : Vec Ideal S1x128 .f32)

/-- The accumulator when the loop starts: zero. -/
def start : BufTy.Contents (Elt Ideal) arg9.view.ty :=
  arg9.view.writes (Elt Ideal) arg9.view.junk
    [⟨Rect.unit ![0, 0, 0] S2x128x512.size inb_S2x128x512_S2x128x512_0_0_0, k0_pay19 (F := Ideal)⟩]

theorem start_zero (y) : half0 arg9 (start arg9) y = 0 ∧ half1 arg9 (start arg9) y = 0 := by
  have h : ∀ z, (k0_pay19 : FVec Ideal S2x128x512 .f32) z = (0 : EReal) := by
    intro z
    idx_vars z
    pointwise [k0_pay19]
  unfold half0 half1 start
  rw [View.readAt_eq_ld, View.readAt_eq_ld, View.ld, View.ld, View.read_writes_full]
  exact ⟨h _, h _⟩

/-- The state after the loop. -/
abbrev last : Carry × List (View.Piece (Elt Ideal) S2x128x512 .f32) :=
  st Variants.none c none i arg3 harg3 arg4 harg4 arg5 harg5 arg6 harg6 arg7 harg7 arg8 harg8 arg9 harg9
    x0 (harg4.unread x1) (harg5.unread x2) (start arg9) (k0_pay20, k0_pay21, k0_pay20, k0_pay21) k0_t1_loop.trips

set_option maxHeartbeats 2000000 in
/-- The block the body stores. -/
theorem out_eq : out0_A_5 c i arg3 harg3 arg4 harg4 arg5 harg5 arg6 harg6 arg7 harg7 arg8 harg8 arg9 harg9 x0 x1 x2 x3 x4
    = k0_pay1 (k0_pay26
        (last c i arg3 harg3 arg4 harg4 arg5 harg5 arg6 harg6 arg7 harg7 arg8 harg8 arg9 harg9 x0 x1 x2).1.2.1
        (last c i arg3 harg3 arg4 harg4 arg5 harg5 arg6 harg6 arg7 harg7 arg8 harg8 arg9 harg9 x0 x1 x2).1.2.2.2
        (k0_pay24 (View.ld x3 (Rect.unit (s := S4x64) ![0, 0] S1x64.size inb_S4x64_S1x64_0_0))
          (View.ld x3 (Rect.unit (s := S4x64) ![1, 0] S1x64.size inb_S4x64_S1x64_1_0)))
        (k0_pay25 (View.ld x3 (Rect.unit (s := S4x64) ![2, 0] S1x64.size inb_S4x64_S1x64_2_0))
          (View.ld x3 (Rect.unit (s := S4x64) ![3, 0] S1x64.size inb_S4x64_S1x64_3_0)))
        (half0 arg9 (arg9.view.writes (Elt Ideal) (start arg9)
          (last c i arg3 harg3 arg4 harg4 arg5 harg5 arg6 harg6 arg7 harg7 arg8 harg8 arg9 harg9 x0 x1 x2).2))
        (half1 arg9 (arg9.view.writes (Elt Ideal) (start arg9)
          (last c i arg3 harg3 arg4 harg4 arg5 harg5 arg6 harg6 arg7 harg7 arg8 harg8 arg9 harg9 x0 x1 x2).2)) x4) := by
  have h3 : View.readAt (Elt Ideal) arg3.view (Rect.unit ![0, 0, 0] S1x512x128.size inb_S1x512x128_S1x512x128_0_0_0).toLoadRect
      (harg3.unread x0) = x0 := by
    rw [View.readAt_eq_ld, harg3.read_unread]
    exact View.ld_unit_lit _ _ (by decide)
  have h7 : View.readAt (Elt Ideal) arg7.view (Rect.unit ![0, 0] S1x128.size inb_S1x128_S1x128_0_0).toLoadRect
      (harg7.unread x4) = x4 := by
    rw [View.readAt_eq_ld, harg7.read_unread]
    exact View.ld_unit_lit _ _ (by decide)
  unfold out0_A_5
  rw [View.read_writes_eq_canon _ _ _ (cover0_A_5 c i arg3 harg3 arg4 harg4 arg5 harg5 arg6 harg6 arg7 harg7 arg8 harg8
    arg9 harg9 x0 x1 x2 x3 x4)]
  unfold kernelRun0_A
  dsimp only
  sl_unfold_words
  rw [View.canon_cons_unit_lit _ _ _ (by decide), h3, h7]
  have h9 : ∀ (L : List (View.Piece (Elt Ideal) S2x128x512 .f32)) (B : LoadRect S2x128x512),
      arg9.view.readCov (L ++ [⟨Rect.unit ![0, 0, 0] S2x128x512.size inb_S2x128x512_S2x128x512_0_0_0,
          k0_pay19 (F := Ideal)⟩]) B
        = View.readAt (Elt Ideal) arg9.view B (arg9.view.writes (Elt Ideal) (start arg9) L) := by
    intro L B
    rw [View.readCov, View.writes_append]
    rfl
  rw [h9, h9]
  iterate 4 rw [View.readAt_eq_ld arg6.view]
  rw [harg6.read_unread]
  rfl

end Run

end Cert.KernelIdeal.Value

end
-- ==== Proof.AttnBlock.lean ====
module

public import proofs.«01_k».proof.Proof.AttnOut
public import Idealize.ShloMosaic.Lib.Pipeline.ValueKit.Tiles

@[expose] public section

/-!
The block the attention kernel's body stores at one grid point, as the reference's formula over the point's blocks, for
real queries, keys, values and lambda vectors.
-/

set_option maxRecDepth 16384

noncomputable section

open Idealize.ShloMosaic Idealize.ShloMosaic.TcCoe Idealize.SL.Sem
open scoped BigOperators
open Cert.Softmax

namespace Cert.KernelIdeal.Value

open Cert.KernelIdeal Cert.KernelIdeal.Gen
open Cert.ReferenceIdeal.Value (softmax average factor rms)

/-- A sum over 128 lanes is the sum over the first 64 and the sum over the last 64. -/
theorem lanes_sum (f : Fin 128 → EReal) : ∑ d, f d
    = (∑ d : Fin 64, f ⟨(0 : Fin 2).val * 64 + d.val, by simp; omega⟩)
      + ∑ d : Fin 64, f ⟨(1 : Fin 2).val * 64 + d.val, by simp; omega⟩ := by
  refine (Fin.sum_univ_add (a := 64) (b := 64) f).trans ?_
  congr 1

/-- The score of a key against a query in map `i`, over the point's blocks. -/
def blockScore (x0 : Vec Ideal S1x512x128 .bf16) (x1 : Vec Ideal S1x8192x128 .bf16) (i : Fin 2) (q : Fin 512)
    (t : Fin 8192) : EReal :=
  ∑ d : Fin 64, x0 (ix3 0 q ⟨i.val * 64 + d.val, by omega⟩) * x1 (ix3 0 t ⟨i.val * 64 + d.val, by omega⟩)

/-- The scores of real blocks are real. -/
theorem score_real (x0 : Vec Ideal S1x512x128 .bf16) (x1 : Vec Ideal S1x8192x128 .bf16)
    (h0 : ∀ y, ∃ r : ℝ, x0 y = (r : EReal)) (h1 : ∀ y, ∃ r : ℝ, x1 y = (r : EReal)) :
    ∃ s : Fin 2 → Fin 512 → ℕ → ℝ, ∀ i q (t : Fin 8192), blockScore x0 x1 i q t = ((s i q t.val : ℝ) : EReal) := by
  choose a0 ha0 using h0
  choose a1 ha1 using h1
  refine ⟨fun i q n => ∑ d : Fin 64, a0 (ix3 0 q ⟨i.val * 64 + d.val, by omega⟩)
    * a1 (ix3 0 (Fin.ofNat 8192 n) ⟨i.val * 64 + d.val, by omega⟩), fun i q t => ?_⟩
  have ht : Fin.ofNat 8192 t.val = t := Fin.ext (Nat.mod_eq_of_lt t.isLt)
  unfold blockScore
  simp only [ha0, ha1, ← EReal.coe_mul, ht]
  exact coe_sum _ _

/-- The difference of two maps' averages, from their running sums over all keys. -/
theorem average_eq {s₀ s₁ v : ℕ → ℝ} {f₀ f₁ w : Fin 8192 → EReal} (h₀ : ∀ t, f₀ t = ((s₀ t.val : ℝ) : EReal))
    (h₁ : ∀ t, f₁ t = ((s₁ t.val : ℝ) : EReal)) (hw : ∀ t, w t = ((v t.val : ℝ) : EReal))
    {m₀ m₁ a₀ a₁ l₀ l₁ l : EReal} (ha₀ : Acc s₀ v 8192 m₀ a₀) (hl₀ : Acc s₀ (fun _ => 1) 8192 m₀ l₀)
    (ha₁ : Acc s₁ v 8192 m₁ a₁) (hl₁ : Acc s₁ (fun _ => 1) 8192 m₁ l₁) (hl : ∃ c : ℝ, l = (c : EReal)) :
    a₀ * Ideal.div 1 l₀ - l * (a₁ * Ideal.div 1 l₁) = average f₀ f₁ l w := by
  obtain ⟨c, rfl⟩ := hl
  obtain rfl : f₀ = _ := funext h₀
  obtain rfl : f₁ = _ := funext h₁
  obtain rfl : w = _ := funext hw
  obtain ⟨ν₀, e₀⟩ := fold_max_real (fun t : Fin 8192 => s₀ t.val)
  obtain ⟨ν₁, e₁⟩ := fold_max_real (fun t : Fin 8192 => s₁ t.val)
  rw [diff_eq (by omega) ha₀ hl₀ ha₁ hl₁ ν₀ ν₁ c]
  unfold average softmax
  rw [e₀, e₁]

section Run

variable (c : Dev nD) (i : grid0.Coords)
  (arg3 : Memref sig .tc .vmem S1x512x128 .bf16) (harg3 : arg3.IsWhole)
  (arg4 : Memref sig .tc .vmem S1x8192x128 .bf16) (harg4 : arg4.IsWhole)
  (arg5 : Memref sig .tc .vmem S1x128x8192 .bf16) (harg5 : arg5.IsWhole)
  (arg6 : Memref sig .tc .vmem S4x64 .f32) (harg6 : arg6.IsWhole)
  (arg7 : Memref sig .tc .vmem S1x128 .f32) (harg7 : arg7.IsWhole)
  (arg8 : Memref sig .tc .vmem S1x512x128 .bf16) (harg8 : arg8.IsWhole)
  (arg9 : Memref sig .tc .vmem S2x128x512 .f32) (harg9 : arg9.IsWhole)
  (x0 : Vec Ideal S1x512x128 .bf16) (x1 : Vec Ideal S1x8192x128 .bf16) (x2 : Vec Ideal S1x128x8192 .bf16)
  (x3 : Vec Ideal S4x64 .f32) (x4 : Vec Ideal S1x128 .f32)

theorem key_lt (k : Fin k0_t1_loop.trips) (j : Fin 512) : 512 * k.val + j.val < 8192 := by
  have h : k.val < 16 := lt_of_lt_of_eq k.isLt trips_eq
  omega

/-- An entry of a trip's tile of keys. -/
theorem keys_at (k : Fin k0_t1_loop.trips) (j : Fin 512) (d : Fin 128) :
    keys arg4 (harg4.unread x1) k (ix3 0 j d) = x1 (ix3 0 ⟨512 * k.val + j.val, key_lt k j⟩ d) := by
  unfold keys
  rw [View.readAt_eq_ld, harg4.read_unread]
  refine View.ld_unit_apply_of _ _ _ _ _ _ fun a => ?_
  refine Eq.trans ?_ (congrArg (· + _) (congrFun (k0_off1_eq k) a).symm)
  fin_cases a
  · rfl
  · rfl
  · exact (Nat.zero_add _).symm

/-- An entry of a trip's tile of values. -/
theorem vals_at (k : Fin k0_t1_loop.trips) (e : Fin 128) (j : Fin 512) :
    vals arg5 (harg5.unread x2) k (ix3 0 e j) = x2 (ix3 0 e ⟨512 * k.val + j.val, key_lt k j⟩) := by
  unfold vals
  rw [View.readAt_eq_ld, harg5.read_unread]
  refine View.ld_unit_apply_of _ _ _ _ _ _ fun a => ?_
  refine Eq.trans ?_ (congrArg (· + _) (congrFun (k0_off2_eq k) a).symm)
  fin_cases a
  · rfl
  · exact (Nat.zero_add _).symm
  · rfl

/-- A trip's scores in the first map. -/
theorem tile0 (k : Fin k0_t1_loop.trips) (j q : Fin 512) :
    k0_pay4 (k0_pay17 x0) (keys arg4 (harg4.unread x1) k) (ix2 j q)
      = blockScore x0 x1 0 q ⟨512 * k.val + j.val, key_lt k j⟩ := by
  rw [pay4_at, lanes_sum]
  unfold blockScore
  simp only [keys_at, pay17_at]
  rw [Finset.sum_eq_zero (s := Finset.univ) (f := fun d : Fin 64 => _ * (if (1 : Fin 2).val * 64 + d.val < 64 then _ else _))
    (fun d _ => by rw [if_neg (by simp), mul_zero]), add_zero]
  refine Finset.sum_congr rfl fun d _ => ?_
  rw [if_pos (by simp), mul_comm]

/-- A trip's scores in the second map. -/
theorem tile1 (k : Fin k0_t1_loop.trips) (j q : Fin 512) :
    k0_pay4 (k0_pay18 x0) (keys arg4 (harg4.unread x1) k) (ix2 j q)
      = blockScore x0 x1 1 q ⟨512 * k.val + j.val, key_lt k j⟩ := by
  rw [pay4_at, lanes_sum]
  unfold blockScore
  simp only [keys_at, pay18_at]
  rw [Finset.sum_eq_zero (s := Finset.univ) (f := fun d : Fin 64 => _ * (if (0 : Fin 2).val * 64 + d.val < 64 then _ else _))
    (fun d _ => by rw [if_pos (by simp), mul_zero]), zero_add]
  refine Finset.sum_congr rfl fun d _ => ?_
  rw [if_neg (by simp), mul_comm]

/-- A row of the lambda vectors. -/
theorem row_at (n : Fin 4) (inb : ∀ a, (![n.val, 0] : Fin 2 → ℕ) a + S1x64.size a ≤ S4x64.size a) (x : Fin 64) :
    View.ld x3 (Rect.unit (s := S4x64) ![n.val, 0] S1x64.size inb) (ix2 0 x) = x3 (ix2 n x) := by
  refine View.ld_unit_apply_of _ _ _ _ _ _ fun a => ?_
  fin_cases a
  · rfl
  · exact (Nat.zero_add _).symm

/-- The stored block at a query and a lane. -/
theorem out_at (h0 : ∀ y, ∃ r : ℝ, x0 y = (r : EReal)) (h1 : ∀ y, ∃ r : ℝ, x1 y = (r : EReal))
    (h2 : ∀ y, ∃ r : ℝ, x2 y = (r : EReal)) (h3 : ∀ y, ∃ r : ℝ, x3 y = (r : EReal)) (r : Fin 512) (e : Fin 128) :
    out0_A_5 c i arg3 harg3 arg4 harg4 arg5 harg5 arg6 harg6 arg7 harg7 arg8 harg8 arg9 harg9 x0 x1 x2 x3 x4 (ix3 0 r e)
      = rms (fun x => average (blockScore x0 x1 0 r) (blockScore x0 x1 1 r)
          (factor (fun x => x3 (ix2 0 x)) (fun x => x3 (ix2 1 x)) (fun x => x3 (ix2 2 x)) (fun x => x3 (ix2 3 x)))
          (fun t => x2 (ix3 0 x t))) (x4 (ix2 0 e)) e := by
  obtain ⟨s, hs⟩ := score_real x0 x1 h0 h1
  choose a2 ha2 using h2
  choose a3 ha3 using h3
  have hv : ∀ (x : Fin 128) (t : Fin 8192), x2 (ix3 0 x t) = ((a2 (ix3 0 x (Fin.ofNat 8192 t.val)) : ℝ) : EReal) := by
    intro x t
    rw [ha2, show Fin.ofNat 8192 t.val = t from Fin.ext (Nat.mod_eq_of_lt t.isLt)]
  have inv := invariant Variants.none c none i arg3 harg3 arg4 harg4 arg5 harg5 arg6 harg6 arg7 harg7 arg8 harg8 arg9 harg9
    x0 (harg4.unread x1) (harg5.unread x2) (start arg9) (k0_pay20, k0_pay21, k0_pay20, k0_pay21) (s 0) (s 1)
    (fun x n => a2 (ix3 0 x (Fin.ofNat 8192 n))) rfl (fun y => (start_zero arg9 y).1) (fun y => (start_zero arg9 y).2)
    (fun k j q => by rw [tile0, hs]) (fun k j q => by rw [tile1, hs]) (fun k x j => by rw [vals_at, hv])
    k0_t1_loop.trips (Nat.le_refl _) r
  rw [show 512 * k0_t1_loop.trips = 8192 by rw [trips_eq]] at inv
  obtain ⟨⟨d0, a0⟩, ⟨d1, a1⟩⟩ := inv
  have hl : ∃ l : ℝ, factor (fun x => x3 (ix2 0 x)) (fun x => x3 (ix2 1 x)) (fun x => x3 (ix2 2 x)) (fun x => x3 (ix2 3 x))
      = (l : EReal) := by
    simp only [ha3]
    exact factor_real _ _ _ _
  rw [out_eq, pay_at]
  congr 1
  funext x
  rw [show (fun y => View.ld x3 (Rect.unit (s := S4x64) ![0, 0] S1x64.size inb_S4x64_S1x64_0_0) (ix2 0 y))
      = fun y => x3 (ix2 0 y) from funext (row_at x3 0 _),
    show (fun y => View.ld x3 (Rect.unit (s := S4x64) ![1, 0] S1x64.size inb_S4x64_S1x64_1_0) (ix2 0 y))
      = fun y => x3 (ix2 1 y) from funext (row_at x3 1 _),
    show (fun y => View.ld x3 (Rect.unit (s := S4x64) ![2, 0] S1x64.size inb_S4x64_S1x64_2_0) (ix2 0 y))
      = fun y => x3 (ix2 2 y) from funext (row_at x3 2 _),
    show (fun y => View.ld x3 (Rect.unit (s := S4x64) ![3, 0] S1x64.size inb_S4x64_S1x64_3_0) (ix2 0 y))
      = fun y => x3 (ix2 3 y) from funext (row_at x3 3 _)]
  exact average_eq (hs 0 r) (hs 1 r) (hv x) (a0 x) d0 (a1 x) d1 hl

end Run

end Cert.KernelIdeal.Value

end
-- ==== Proof.NbrBlock.lean ====
module

public import proofs.«01_k».proof.Proof.Gen.NbrIdeal.Frame
public import proofs.«01_k».proof.Proof.AttnBlock
public import Idealize.ShloMosaic.Lib.Pointwise

@[expose] public section

/-!
What the neighbourhood attention's body computes from a pair of heads: 64 queries, the 512 keys and values of their
window and the window's bias.
-/

set_option maxRecDepth 16384

noncomputable section

open Idealize.ShloMosaic Idealize.ShloMosaic.TcCoe Idealize.SL.Sem
open scoped BigOperators
open Cert.Softmax

namespace Cert.NbrIdeal.Value

open Cert.NbrIdeal Cert.NbrIdeal.Gen

/-- A softmax of 512 scores and the values weighted with it. -/
def attend (S V : Fin 512 → EReal) : EReal :=
  ∑ e : Fin 512, V e * Ideal.div (Ideal.exp (S e - Finset.fold max (⊥ : EReal) S Finset.univ))
    (∑ k : Fin 512, Ideal.exp (S k - Finset.fold max (⊥ : EReal) S Finset.univ))

/-- Among real scores the sum of the exponentials is not zero. -/
theorem sum_ne_zero (S : Fin 512 → EReal) (hS : ∀ e, ∃ r : ℝ, S e = (r : EReal)) :
    ∑ k : Fin 512, Ideal.exp (S k - Finset.fold max (⊥ : EReal) S Finset.univ) ≠ 0 := by
  have top : Finset.fold max (⊥ : EReal) S Finset.univ < ⊤ := by
    rw [Finset.fold_max_lt]
    refine ⟨bot_lt_top, fun e _ => ?_⟩
    obtain ⟨r, hr⟩ := hS e
    rw [hr]
    exact EReal.coe_lt_top r
  have pos : ∀ k, 0 < Ideal.exp (S k - Finset.fold max (⊥ : EReal) S Finset.univ) := by
    intro k
    obtain ⟨r, hr⟩ := hS k
    rw [hr]
    generalize Finset.fold max (⊥ : EReal) S Finset.univ = M at top
    induction M using EReal.rec with
    | bot => exact (EReal.zero_lt_top : (0 : EReal) < ⊤)
    | coe M =>
      rw [← EReal.coe_sub]
      exact EReal.coe_pos.2 (Real.exp_pos _)
    | top => exact absurd top (lt_irrefl _)
  intro h
  have h0 := (Finset.sum_eq_zero_iff_of_nonneg fun k _ => (pos k).le).1 h 0 (Finset.mem_univ _)
  exact (pos 0).ne' h0

variable (q : Vec Ideal S1x64x128 .bf16) (k v : Vec Ideal S1x512x128 .bf16) (t : Vec Ideal S8x1x64x128 .f32)

/-- The two heads' queries one above the other, each with the other head's lanes set to zero. -/
def queries : FVec Ideal S128x128 .bf16 :=
  concatenate S128x128 0 [⟨S64x128, select k0_pay2 (shapeCast S64x128 q shapeCasts_S1x64x128_S64x128)
      (broadcast S64x128 (Scalar.ofBits (F := Ideal) .bf16 0x0000#16))⟩,
    ⟨S64x128, select k0_pay2 (broadcast S64x128 (Scalar.ofBits (F := Ideal) .bf16 0x0000#16))
      (shapeCast S64x128 q shapeCasts_S1x64x128_S64x128)⟩] concatenates_S64x128_S64x128_S128x128_d0

/-- The scores with their bias. -/
def scores : FVec Ideal S512x128 .f32 :=
  addf (matmul dot_S512x128_S128x128_S512x128_1_1_0_0_n_n none (φ₁ := .bf16) (shapeCast S512x128 k shapeCasts_S1x512x128_S512x128)
      (queries q) (constant (F := Ideal) S512x128 .f32 0x00000000#32))
    (shapeCast S512x128 (shapeCast S8x64x128 t shapeCasts_S8x1x64x128_S8x64x128) shapeCasts_S8x64x128_S512x128)

theorem queries_at (l d : Fin 128) :
    queries q (ix2 l d) = if d.val / 64 = l.val / 64 then q (ix3 0 ⟨l.val % 64, by omega⟩ d) else 0 := by
  pointwise [queries, k0_pay2]
  rw [Cert.KernelIdeal.Value.lane_test]
  by_cases hl : l.val < 64
  · refine (dif_pos hl).trans ?_
    by_cases hd : d.val < 64
    · refine Eq.trans ?_ (if_pos (show d.val / 64 = l.val / 64 by omega)).symm
      rw [if_pos hd]
      exact congrArg (fun i => q (ix3 0 i d)) (Fin.ext (show l.val = l.val % 64 by omega))
    · refine Eq.trans ?_ (if_neg (show ¬ d.val / 64 = l.val / 64 by omega)).symm
      rw [if_neg hd]
      rfl
  · refine (dif_neg hl).trans ?_
    by_cases hd : d.val < 64
    · refine Eq.trans ?_ (if_neg (show ¬ d.val / 64 = l.val / 64 by omega)).symm
      rw [if_pos hd]
      rfl
    · refine Eq.trans ?_ (if_pos (show d.val / 64 = l.val / 64 by omega)).symm
      rw [if_neg hd]
      exact congrArg (fun i => q (ix3 0 i d)) (Fin.ext (show l.val - 64 = l.val % 64 by omega))

theorem scores_at (e : Fin 512) (l : Fin 128) :
    scores q k t (ix2 e l) = (∑ d : Fin 128, k (ix3 0 e d) * queries q (ix2 l d))
      + t (ix4 ⟨e.val / 64, by omega⟩ 0 ⟨e.val % 64, by omega⟩ l) := by
  pointwise [scores]

theorem exps_at (e : Fin 512) (l : Fin 128) :
    k0_pay4 q k t (ix2 e l) = Ideal.exp (scores q k t (ix2 e l)
      - Finset.fold max (⊥ : EReal) (fun e : Fin 512 => scores q k t (ix2 e l)) Finset.univ) := by
  have h : k0_pay4 q k t = exp (subf (scores q k t) (broadcastTo S512x128 (shapeCast S1x128
    (multiReduction .maximumf [0] S128 (scores q k t) 0xFF800000#32 reduces_S512x128_S128 (.inl rfl) rfl)
    shapeCasts_S128_S1x128) broadcasts_S1x128_S512x128)) := rfl
  rw [h]
  pointwise []
  rw [ofBits_ninf]

theorem recip_at (l : Fin 128) :
    k0_pay5 q k t (ix2 0 l) = Ideal.div 1 (∑ e : Fin 512, k0_pay4 q k t (ix2 e l)) := by
  pointwise [k0_pay5]

theorem stored_at (x : FVec Ideal S512x128 .f32) (r : FVec Ideal S1x128 .f32) (z : Fin 1) (w : Fin 64) (d : Fin 128) :
    k0_pay6 k0_pay2 (k0_pay3 v) x r (ix3 z w d)
      = ∑ e : Fin 512, x (ix2 e ⟨d.val / 64 * 64 + w.val, by omega⟩) * r (ix2 0 ⟨d.val / 64 * 64 + w.val, by omega⟩)
          * v (ix3 0 e d) := by
  pointwise [k0_pay6, k0_pay3, k0_pay2]
  rw [Cert.KernelIdeal.Value.lane_test]
  by_cases hd : d.val < 64
  · rw [if_pos hd, show (⟨d.val / 64 * 64 + w.val, by omega⟩ : Fin 128) = ⟨w.val, by omega⟩ from Fin.ext (by
      change d.val / 64 * 64 + w.val = w.val
      omega)]
    rfl
  · rw [if_neg hd, show (⟨d.val / 64 * 64 + w.val, by omega⟩ : Fin 128) = ⟨64 + w.val, by omega⟩ from Fin.ext (by
      change d.val / 64 * 64 + w.val = 64 + w.val
      omega)]
    rfl

/-- A head's score is the sum over its own 64 lanes. -/
theorem score_at (e : Fin 512) (h : Fin 2) (w : Fin 64) :
    scores q k t (ix2 e ⟨h.val * 64 + w.val, by omega⟩)
      = (∑ x : Fin 64, q (ix3 0 w ⟨h.val * 64 + x.val, by omega⟩) * k (ix3 0 e ⟨h.val * 64 + x.val, by omega⟩))
        + t (ix4 ⟨e.val / 64, by omega⟩ 0 ⟨e.val % 64, by omega⟩ ⟨h.val * 64 + w.val, by omega⟩) := by
  have lane : ∀ (g : Fin 2) (x : Fin 64), queries q (ix2 ⟨h.val * 64 + w.val, by omega⟩ ⟨g.val * 64 + x.val, by omega⟩)
      = if g = h then q (ix3 0 w ⟨g.val * 64 + x.val, by omega⟩) else 0 := by
    intro g x
    rw [queries_at]
    refine if_congr ?_ (congrArg (fun i => q (ix3 0 i _)) (Fin.ext (show (h.val * 64 + w.val) % 64 = w.val by omega))) rfl
    change (g.val * 64 + x.val) / 64 = (h.val * 64 + w.val) / 64 ↔ g = h
    rw [Fin.ext_iff]
    omega
  rw [scores_at, Cert.KernelIdeal.Value.lanes_sum]
  congr 1
  simp only [lane]
  obtain rfl | rfl : h = 0 ∨ h = 1 := by omega
  · refine (congrArg₂ (· + ·) (Finset.sum_congr rfl fun x _ => ?_) (Finset.sum_eq_zero fun x _ => ?_)).trans (add_zero _)
    · rw [if_pos rfl, mul_comm]
    · rw [if_neg (by decide), mul_zero]
  · refine (congrArg₂ (· + ·) (Finset.sum_eq_zero fun x _ => ?_) (Finset.sum_congr rfl fun x _ => ?_)).trans (zero_add _)
    · rw [if_neg (by decide), mul_zero]
    · rw [if_pos rfl, mul_comm]

/-- What a pair of heads stores, where its scores are real. -/
theorem pair_at (z : Fin 1) (w : Fin 64) (d : Fin 128)
    (hS : ∀ e, ∃ r : ℝ, scores q k t (ix2 e ⟨d.val / 64 * 64 + w.val, by omega⟩) = (r : EReal)) :
    k0_pay6 k0_pay2 (k0_pay3 v) (k0_pay4 q k t) (k0_pay5 q k t) (ix3 z w d)
      = attend (fun e => scores q k t (ix2 e ⟨d.val / 64 * 64 + w.val, by omega⟩)) (fun e => v (ix3 0 e d)) := by
  rw [stored_at]
  simp only [recip_at, exps_at]
  refine Finset.sum_congr rfl fun e _ => ?_
  rw [mul_comm]
  congr 1
  exact Ideal.mul_one_div (sum_ne_zero _ hS)

end Cert.NbrIdeal.Value

end
-- ==== Proof.NbrRef.lean ====
module

public import proofs.«01_k».proof.Proof.Gen.NbrRefIdeal.Run
public import proofs.«01_k».proof.Proof.AttnRef

@[expose] public section

/-!
The neighbourhood attention's reference, entry by entry: its composed term is cut into the rows of every window, the
scores with their bias, the softmax and the weighted sum, and each part is read at an index.
-/

set_option maxRecDepth 16384

noncomputable section

open Idealize.ShloMosaic Idealize.ShloMosaic.TcCoe Idealize.SL.Sem
open scoped BigOperators

namespace Cert.NbrRefIdeal.Value

open Cert.NbrRefIdeal Cert.NbrRefIdeal.Gen

/-- The first grid row of the window of grid row `r`. -/
def first (r : ℕ) : ℕ := min (r - 4) 120

/-- The grid row that key row `j` of each window lies in, as the program computes it. -/
def rows : IVec S128x8 32 :=
  addi (broadcastInDim S128x8 ![0, 1] bcast_S128x1_S128x8_0_1 (broadcastInDim S128x1 ![0] bcast_S128_S128x1_0
      (minsi (broadcastInDim S128 ![] bcast_S_S128 (constantI S_ 32 120#32))
        (maxsi (broadcastInDim S128 ![] bcast_S_S128 (constantI S_ 32 0#32))
          (subi (iotaInDim S128 32 0) (broadcastInDim S128 ![] bcast_S_S128 (constantI S_ 32 4#32)))))))
    (broadcastInDim S128x8 ![0, 1] bcast_S1x8_S128x8_0_1 (broadcastInDim S1x8 ![1] bcast_S8_S1x8_1 (iotaInDim S8 32 0)))

/-- The table row of each key row of each window, as the program computes it. -/
def offsets : IVec S128x8 32 :=
  addi (subi rows (broadcastInDim S128x8 ![0, 1] bcast_S128x1_S128x8_0_1
      (broadcastInDim S128x1 ![0] bcast_S128_S128x1_0 (iotaInDim S128 32 0))))
    (broadcastInDim S128x8 ![] bcast_S_S128x8 (constantI S_ 32 7#32))

/-- Tokens as a grid of rows and columns, features as heads. -/
def grid (x : FVec Ideal S2x8192x512 .bf16) : FVec Ideal S2x128x64x8x64 .f32 :=
  shapeCast _ (extf .f32 x bitsLt_bf16_f32) shapeCasts_S2x8192x512_S2x128x64x8x64

/-- The rows of every window. -/
def windows (x : FVec Ideal S2x128x64x8x64 .f32) : FVec Ideal S2x128x8x64x8x64 .f32 :=
  Host.gather gather_S2x128x64x8x64_S128x8x1_S2x128x8x64x8x64_0345_1_n_n_1_2_2164864 x
    (broadcastInDim S128x8x1 ![0, 1] bcast_S128x8_S128x8x1_0_1 rows)

/-- The table as an array of heads, query columns, table rows and key columns. -/
def table (t : FVec Ideal S15x4x64x128 .f32) : FVec Ideal S8x64x15x64 .f32 :=
  shapeCast _ (transpose S4x2x64x15x64 [1, 3, 4, 0, 2] (shapeCast _ t shapeCasts_S15x4x64x128_S15x4x64x2x64)
    transposes_S15x4x64x2x64_S4x2x64x15x64_1_3_4_0_2) shapeCasts_S4x2x64x15x64_S8x64x15x64

/-- The bias of every window. -/
def bias (t : FVec Ideal S8x64x15x64 .f32) : FVec Ideal S8x64x128x8x64 .f32 :=
  Host.gather gather_S8x64x15x64_S128x8x1_S8x64x128x8x64_014_2_n_n_2_2_864164 t
    (broadcastInDim S128x8x1 ![0, 1] bcast_S128x8_S128x8x1_0_1 offsets)

/-- The scores with their bias. -/
def biased (q : FVec Ideal S2x128x64x8x64 .f32) (k : FVec Ideal S2x128x8x64x8x64 .f32)
    (t : FVec Ideal S8x64x128x8x64 .f32) : FVec Ideal S2x128x8x64x512 .f32 :=
  shapeCast _ (addf
    (Host.dotGeneral dot_S2x128x64x8x64_S2x128x8x64x8x64_S2x128x8x64x8x64_4_5_2_23_013_014 none q k)
    (broadcastInDim S2x128x8x64x8x64 ![0, 1, 2, 3, 4, 5] bcast_S1x128x8x64x8x64_S2x128x8x64x8x64_0_1_2_3_4_5
      (broadcastInDim S1x128x8x64x8x64 ![1, 2, 3, 4, 5] bcast_S128x8x64x8x64_S1x128x8x64x8x64_1_2_3_4_5
        (transpose S128x8x64x8x64 [2, 0, 1, 3, 4] t transposes_S8x64x128x8x64_S128x8x64x8x64_2_0_1_3_4))))
    shapeCasts_S2x128x8x64x8x64_S2x128x8x64x512

/-- One number per query, repeated along the keys. -/
def along (r : FVec Ideal S2x128x8x64 .f32) : FVec Ideal S2x128x8x64x512 .f32 :=
  broadcastInDim S2x128x8x64x512 ![0, 1, 2, 3, 4] bcast_S2x128x8x64x1_S2x128x8x64x512_0_1_2_3_4
    (broadcastInDim S2x128x8x64x1 ![0, 1, 2, 3] bcast_S2x128x8x64_S2x128x8x64x1_0_1_2_3 r)

/-- The largest score of each query. -/
def largest (s : FVec Ideal S2x128x8x64x512 .f32) : FVec Ideal S2x128x8x64 .f32 :=
  maximumf (broadcastInDim S2x128x8x64 ![] bcast_S_S2x128x8x64 (constant S_ .f32 0xFF800000#32))
    (Host.reduce FloatOps.maximumf s (constant S_ .f32 0xFF800000#32) reducesTo_S2x128x8x64x512_S2x128x8x64_d4 h_S_)

/-- The exponentials of a query's scores less the largest. -/
def exps (s : FVec Ideal S2x128x8x64x512 .f32) : FVec Ideal S2x128x8x64x512 .f32 :=
  Host.exp (subf s (along (largest s)))

/-- Each exponential divided by its query's sum. -/
def weights (x : FVec Ideal S2x128x8x64x512 .f32) : FVec Ideal S2x128x8x64x512 .f32 :=
  Host.divf x (along (Host.reduceAdd x (constant S_ .f32 0x00000000#32) reducesTo_S2x128x8x64x512_S2x128x8x64_d4 h_S_))

/-- The values summed with the weights, as tokens and features. -/
def summed (p : FVec Ideal S2x128x8x64x512 .f32) (v : FVec Ideal S2x128x8x64x8x64 .f32) : FVec Ideal S2x8192x512 .bf16 :=
  truncf .bf16 (shapeCast _ (transpose S2x128x64x8x64 [0, 1, 4, 2, 3]
    (Host.dotGeneral dot_S2x128x512x8x64_S2x128x8x64x512_S2x128x8x64x64_2_4_4_3_013_012 none
      (shapeCast _ v shapeCasts_S2x128x8x64x8x64_S2x128x512x8x64) p)
    transposes_S2x128x8x64x64_S2x128x64x8x64_0_1_4_2_3) shapeCasts_S2x128x64x8x64_S2x8192x512) bitsLt_bf16_f32

/-- The composed term is the chain of its parts. -/
theorem res_parts (m : (ℓ : Loc nD τ sig) → Buf (Elt Ideal) ℓ) (c : Dev nD) :
    res_main_v48 m c
      = summed (weights (exps (biased (grid (m ((c.tc : Thread nD τ).loc main_arg0)))
          (windows (grid (m ((c.tc : Thread nD τ).loc main_arg1)))) (bias (table (m ((c.tc : Thread nD τ).loc main_arg3)))))))
          (windows (grid (m ((c.tc : Thread nD τ).loc main_arg2)))) := rfl

/-- The rows at an index. -/
theorem rows_val : ∀ (r : Fin 128) (j : Fin 8), min (rows (ix2 r j)).toInt.toNat 127 = first r.val + j.val := by
  decide +kernel

/-- The table rows at an index. -/
theorem offsets_val : ∀ (r : Fin 128) (j : Fin 8),
    min (offsets (ix2 r j)).toInt.toNat 14 = first r.val + j.val + 7 - r.val := by
  decide +kernel

theorem first_le (r : ℕ) : first r ≤ 120 := min_le_right _ _

/-- A key row of a window. -/
def keyRow (r : Fin 128) (j : Fin 8) : Fin 128 := ⟨first r.val + j.val, by have := first_le r.val; omega⟩

/-- Its table row. -/
def tabRow (r : Fin 128) (j : Fin 8) : Fin 15 :=
  ⟨first r.val + j.val + 7 - r.val, by have := r.isLt; unfold first; omega⟩

theorem grid_at (x : FVec Ideal S2x8192x512 .bf16) (b : Fin 2) (r : Fin 128) (w : Fin 64) (h : Fin 8) (d : Fin 64) :
    grid x (ix5 b r w h d) = x (ix3 b ⟨r.val * 64 + w.val, by omega⟩ ⟨h.val * 64 + d.val, by omega⟩) := by
  pointwise [grid]

theorem table_at (t : FVec Ideal S15x4x64x128 .f32) (h : Fin 8) (w : Fin 64) (o : Fin 15) (c : Fin 64) :
    table t (ix4 h w o c) = t (ix4 o ⟨h.val / 2, by omega⟩ c ⟨h.val % 2 * 64 + w.val, by omega⟩) := by
  pointwise [table]

theorem exps_at (s : FVec Ideal S2x128x8x64x512 .f32) (b : Fin 2) (r : Fin 128) (h : Fin 8) (w : Fin 64) (t : Fin 512) :
    exps s (ix5 b r h w t) = Ideal.exp (s (ix5 b r h w t) - largest s (ix4 b r h w)) := by
  pointwise [exps, along]

theorem largest_at (s : FVec Ideal S2x128x8x64x512 .f32) (b : Fin 2) (r : Fin 128) (h : Fin 8) (w : Fin 64) :
    largest s (ix4 b r h w) = Finset.fold max (⊥ : EReal) (fun t : Fin 512 => s (ix5 b r h w t)) Finset.univ :=
  Cert.ReferenceIdeal.Value.reduceMax_at (n0 := 2) (n1 := 128) (n2 := 8) (n3 := 64) (n4 := 512) s bcast_S_S2x128x8x64
    reducesTo_S2x128x8x64x512_S2x128x8x64_d4 h_S_ b r h w

theorem weights_at (x : FVec Ideal S2x128x8x64x512 .f32) (b : Fin 2) (r : Fin 128) (h : Fin 8) (w : Fin 64) (t : Fin 512) :
    weights x (ix5 b r h w t) = Ideal.div (x (ix5 b r h w t)) (∑ k : Fin 512, x (ix5 b r h w k)) := by
  pointwise [weights, along]

/-- An operand axis that is no start index takes its coordinate from an offset axis of the result. -/
theorem offset_axis {s si t : Shape} (g : GatherDims s si t) {w : ℕ} (y : t.Idx) (idx : IVec si w) (a : Fin s.rank)
    (p : Fin t.rank) (ha : a ∉ g.startIndexMap) (hk : a ∈ g.sKept) (hp : g.offsetDims[g.sKept.idxOf a]? = some p) :
    g.start y idx a + g.offCoord y a = (y p).val := by
  unfold GatherDims.start GatherDims.offCoord
  rw [dif_neg ha, dif_pos hk, Nat.zero_add]
  exact congrArg (fun e => (y e).val) (List.getElem?_eq_some_iff.1 hp).2

/-- An operand axis that is a start index and no offset takes its coordinate from the start indices. -/
theorem start_axis {s si t : Shape} (g : GatherDims s si t) {w : ℕ} (y : t.Idx) (idx : IVec si w) (a : Fin s.rank)
    (z : si.Idx) (ha : a ∈ g.startIndexMap) (hk : a ∉ g.sKept)
    (hz : g.siIdx y ⟨g.startIndexMap.idxOf a, List.idxOf_lt_length_iff.2 ha⟩ = z) :
    g.start y idx a + g.offCoord y a = min (idx z).toInt.toNat (s.size a - g.sliceSizes a) := by
  rw [GatherDims.offCoord_eq_zero _ _ _ hk]
  unfold GatherDims.start
  rw [dif_pos ha, hz, Nat.add_zero]

/-- A gathered window at an index is the grid at the window's row. -/
theorem windows_at (x : FVec Ideal S2x128x64x8x64 .f32) (b : Fin 2) (r : Fin 128) (j : Fin 8) (c : Fin 64) (h : Fin 8)
    (d : Fin 64) : windows x (ix6 b r j c h d) = x (ix5 b (keyRow r j) c h d) := by
  unfold windows Host.gather
  congr 1
  funext a
  apply Fin.ext
  show GatherDims.start _ (ix6 b r j c h d) _ a + GatherDims.batchCoord _ (ix6 b r j c h d) a
    + GatherDims.offCoord _ (ix6 b r j c h d) a = _
  rw [GatherDims.batchCoord_eq_zero _ _ _ List.not_mem_nil, Nat.add_zero]
  match a with
  | ⟨0, _⟩ =>
    exact offset_axis gather_S2x128x64x8x64_S128x8x1_S2x128x8x64x8x64_0345_1_n_n_1_2_2164864 _ _ (0 : Fin 5) 0
      (by decide) (by decide) (by decide)
  | ⟨1, _⟩ =>
    refine (start_axis gather_S2x128x64x8x64_S128x8x1_S2x128x8x64x8x64_0345_1_n_n_1_2_2164864 _ _
      (1 : Fin 5) (ix3 r j 0) (by decide) (by decide) ?_).trans ((?_ : _ = _).trans (rows_val r j))
    · funext e
      fin_cases e <;> rfl
    · refine congrArg (fun y => min (BitVec.toInt y).toNat 127) ?_
      pointwise []
  | ⟨2, _⟩ =>
    exact offset_axis gather_S2x128x64x8x64_S128x8x1_S2x128x8x64x8x64_0345_1_n_n_1_2_2164864 _ _ (2 : Fin 5) 3
      (by decide) (by decide) (by decide)
  | ⟨3, _⟩ =>
    exact offset_axis gather_S2x128x64x8x64_S128x8x1_S2x128x8x64x8x64_0345_1_n_n_1_2_2164864 _ _ (3 : Fin 5) 4
      (by decide) (by decide) (by decide)
  | ⟨4, _⟩ =>
    exact offset_axis gather_S2x128x64x8x64_S128x8x1_S2x128x8x64x8x64_0345_1_n_n_1_2_2164864 _ _ (4 : Fin 5) 5
      (by decide) (by decide) (by decide)

/-- A gathered bias at an index is the table at its row. -/
theorem bias_at (t : FVec Ideal S8x64x15x64 .f32) (h : Fin 8) (w : Fin 64) (r : Fin 128) (j : Fin 8) (c : Fin 64) :
    bias t (ix5 h w r j c) = t (ix4 h w (tabRow r j) c) := by
  unfold bias Host.gather
  congr 1
  funext a
  apply Fin.ext
  show GatherDims.start _ (ix5 h w r j c) _ a + GatherDims.batchCoord _ (ix5 h w r j c) a
    + GatherDims.offCoord _ (ix5 h w r j c) a = _
  rw [GatherDims.batchCoord_eq_zero _ _ _ List.not_mem_nil, Nat.add_zero]
  match a with
  | ⟨0, _⟩ =>
    exact offset_axis gather_S8x64x15x64_S128x8x1_S8x64x128x8x64_014_2_n_n_2_2_864164 _ _ (0 : Fin 4) 0
      (by decide) (by decide) (by decide)
  | ⟨1, _⟩ =>
    exact offset_axis gather_S8x64x15x64_S128x8x1_S8x64x128x8x64_014_2_n_n_2_2_864164 _ _ (1 : Fin 4) 1
      (by decide) (by decide) (by decide)
  | ⟨2, _⟩ =>
    refine (start_axis gather_S8x64x15x64_S128x8x1_S8x64x128x8x64_014_2_n_n_2_2_864164 _ _
      (2 : Fin 4) (ix3 r j 0) (by decide) (by decide) ?_).trans ((?_ : _ = _).trans (offsets_val r j))
    · funext e
      fin_cases e <;> rfl
    · refine congrArg (fun y => min (BitVec.toInt y).toNat 14) ?_
      pointwise []
  | ⟨3, _⟩ =>
    exact offset_axis gather_S8x64x15x64_S128x8x1_S8x64x128x8x64_014_2_n_n_2_2_864164 _ _ (3 : Fin 4) 4
      (by decide) (by decide) (by decide)

theorem biased_at (q : FVec Ideal S2x128x64x8x64 .f32) (k : FVec Ideal S2x128x8x64x8x64 .f32)
    (t : FVec Ideal S8x64x128x8x64 .f32) (b : Fin 2) (r : Fin 128) (h : Fin 8) (w : Fin 64) (e : Fin 512) :
    biased q k t (ix5 b r h w e)
      = (∑ d : Fin 64, q (ix5 b r w h d) * k (ix6 b r ⟨e.val / 64, by omega⟩ ⟨e.val % 64, by omega⟩ h d))
        + t (ix5 h w r ⟨e.val / 64, by omega⟩ ⟨e.val % 64, by omega⟩) := by
  pointwise [biased]

theorem summed_at (p : FVec Ideal S2x128x8x64x512 .f32) (v : FVec Ideal S2x128x8x64x8x64 .f32) (b : Fin 2) (s : Fin 8192)
    (f : Fin 512) :
    summed p v (ix3 b s f)
      = ∑ e : Fin 512, v (ix6 b ⟨s.val / 64, by omega⟩ ⟨e.val / 64, by omega⟩ ⟨e.val % 64, by omega⟩
            ⟨f.val / 64, by omega⟩ ⟨f.val % 64, by omega⟩)
          * p (ix5 b ⟨s.val / 64, by omega⟩ ⟨f.val / 64, by omega⟩ ⟨s.val % 64, by omega⟩ e) := by
  pointwise [summed]

/-- The reference's array as a function of its arguments. -/
def OUT (q k v : FVec Ideal S2x8192x512 .bf16) (t : FVec Ideal S15x4x64x128 .f32) : FVec Ideal S2x8192x512 .bf16 :=
  summed (weights (exps (biased (grid q) (windows (grid k)) (bias (table t))))) (windows (grid v))

theorem res_eq (m : (ℓ : Loc nD τ sig) → Buf (Elt Ideal) ℓ) (c : Dev nD) :
    res_main_v48 m c = OUT (m ((c.tc : Thread nD τ).loc main_arg0)) (m ((c.tc : Thread nD τ).loc main_arg1))
      (m ((c.tc : Thread nD τ).loc main_arg2)) (m ((c.tc : Thread nD τ).loc main_arg3)) := res_parts m c

end Cert.NbrRefIdeal.Value

end
-- ==== Proof.AttnValue.lean ====
module

public import proofs.«01_k».proof.Proof.AttnBlock
public import proofs.«01_k».proof.Proof.Gen.KernelIdeal.Frame
public import Idealize.ShloMosaic.Lib.Claim
public import Idealize.ShloMosaic.Lib.StableHlo.RunRead

@[expose] public section

/-!
The attention call: the array the kernel writes is what the reference computes, for real queries, keys, values and lambda
vectors.
-/

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

variable (m : (ℓ : Loc nD τ sig) → Buf (Elt Ideal) ℓ)

/-- Every window's block index at every grid point. -/
theorem idx : ∀ t : Fin cfg0.N, win0_0.index t = ![t.val / 64, t.val % 16, t.val / 16 % 4]
    ∧ win0_1.index t = ![t.val / 64, 0, t.val / 16 % 4]
    ∧ win0_2.index t = ![t.val / 64, t.val / 16 % 4, 0]
    ∧ win0_3.index t = ![0, 0]
    ∧ win0_4.index t = ![0, 0]
    ∧ win0_5.index t = ![t.val / 64, t.val % 16, t.val / 16 % 4] :=
  (by decide +kernel : ∀ t : Fin grid0.N, _)

/-- There are 128 grid points. -/
theorem point_lt (t : Fin cfg0.N) : t.val < 128 := t.isLt

/-- The batch of a grid point. -/
def batch (t : Fin cfg0.N) : Fin 2 := ⟨t.val / 64, by have := point_lt t; omega⟩
/-- The head of a grid point. -/
def head (t : Fin cfg0.N) : Fin 4 := ⟨t.val / 16 % 4, by omega⟩
/-- The query a row of a grid point's block holds. -/
def query (t : Fin cfg0.N) (r : Fin 512) : Fin 8192 := ⟨t.val % 16 * 512 + r.val, by omega⟩

/-- A block of queries. -/
theorem blk0_at (c : Dev nD) (t : Fin cfg0.N) (r : Fin 512) (d : Fin 128) :
    iblk m c 0 t (ix3 0 r d)
      = m ((c : Thread nD τ).loc main_arg0) (ix3 (batch t) (query t r) ⟨(head t).val * 128 + d.val, by omega⟩) := by
  unfold batch head query
  blk_point [iblk, V, idx t]

/-- The keys of a point's head. -/
theorem blk1_at (c : Dev nD) (t : Fin cfg0.N) (r : Fin 8192) (d : Fin 128) :
    iblk m c 1 t (ix3 0 r d)
      = m ((c : Thread nD τ).loc main_arg1) (ix3 (batch t) r ⟨(head t).val * 128 + d.val, by omega⟩) := by
  unfold batch head
  blk_point [iblk, V, idx t]

/-- The values of a point's head. -/
theorem blk2_at (c : Dev nD) (t : Fin cfg0.N) (e : Fin 128) (r : Fin 8192) :
    iblk m c 2 t (ix3 0 e r)
      = m ((c : Thread nD τ).loc main_arg2) (ix3 (batch t) ⟨(head t).val * 128 + e.val, by omega⟩ r) := by
  unfold batch head
  blk_point [iblk, V, idx t]

/-- The four vectors stacked. -/
def stacked (l₀ l₁ l₂ l₃ : FVec Ideal S1x64 .f32) : FVec Ideal S4x64 .f32 :=
  concatenate S4x64 0 [⟨S1x64, l₀⟩, ⟨S1x64, l₁⟩, ⟨S1x64, l₂⟩, ⟨S1x64, l₃⟩] concatenates_S1x64_S1x64_S1x64_S1x64_S4x64_d0

/-- A vector flattened and made a row again. -/
def row (l : FVec Ideal S1x64 .f32) : FVec Ideal S1x64 .f32 :=
  broadcastInDim S1x64 ![1] bcast_S64_S1x64_1 (shapeCast S64 l shapeCasts_S1x64_S64)

/-- Such a row is the vector. -/
theorem row_self (l : FVec Ideal S1x64 .f32) (x : Fin 64) : row l (ix2 0 x) = l (ix2 0 x) := by
  pointwise [row]

/-- The four rows of the stack. -/
theorem stacked_at (l₀ l₁ l₂ l₃ : FVec Ideal S1x64 .f32) (x : Fin 64) : stacked l₀ l₁ l₂ l₃ (ix2 0 x) = l₀ (ix2 0 x)
    ∧ stacked l₀ l₁ l₂ l₃ (ix2 1 x) = l₁ (ix2 0 x) ∧ stacked l₀ l₁ l₂ l₃ (ix2 2 x) = l₂ (ix2 0 x)
    ∧ stacked l₀ l₁ l₂ l₃ (ix2 3 x) = l₃ (ix2 0 x) := by
  refine ⟨?_, ?_, ?_, ?_⟩ <;> pointwise [stacked]

/-- The array of lambda vectors the kernel is called with. -/
theorem entry3 (c : Dev nD) : V m c main_v8 = stacked (row (m ((c : Thread nD τ).loc main_arg3)))
    (row (m ((c : Thread nD τ).loc main_arg4))) (row (m ((c : Thread nD τ).loc main_arg5)))
    (row (m ((c : Thread nD τ).loc main_arg6))) := by
  show StableHlo.after hostOps0 (fun b => m (c, b)) main_v8 = _
  after_reads_simp
  rfl

/-- The block of lambda vectors is the whole array. -/
theorem blk3_entry (c : Dev nD) (t : Fin cfg0.N) (n : Fin 4) (x : Fin 64) :
    iblk m c 3 t (ix2 n x) = V m c main_v8 (ix2 n x) := by
  blk_simp [iblk]
  blk_ext [idx t]

/-- The gain. -/
theorem blk4_at (c : Dev nD) (t : Fin cfg0.N) (x : Fin 128) :
    iblk m c 4 t (ix2 0 x) = m ((c : Thread nD τ).loc main_arg7) (ix2 0 x) := by
  blk_point [iblk, V, idx t]

/-- Where a point's block lies in the result. -/
theorem emb_at (t : Fin cfg0.N) (r : Fin 512) (e : Fin 128) : ((cfg0.win 5).blk t).view.emb (ix3 0 r e)
    = (ix3 (batch t) (query t r) ⟨(head t).val * 128 + e.val, by omega⟩ : S2x8192x512.Idx) := by
  unfold batch head query
  blk_ext [idx t]

/-- The array of reals an array holds, if it holds only reals. -/
abbrev Reals {s : Shape} {φ : FTy} (x : FVec Ideal s φ) : Prop := ∀ y, ∃ r : ℝ, x y = (r : EReal)

/-- The lambda block's rows. -/
theorem blk3_at (c : Dev nD) (t : Fin cfg0.N) (x : Fin 64) :
    iblk m c 3 t (ix2 0 x) = m ((c : Thread nD τ).loc main_arg3) (ix2 0 x)
    ∧ iblk m c 3 t (ix2 1 x) = m ((c : Thread nD τ).loc main_arg4) (ix2 0 x)
    ∧ iblk m c 3 t (ix2 2 x) = m ((c : Thread nD τ).loc main_arg5) (ix2 0 x)
    ∧ iblk m c 3 t (ix2 3 x) = m ((c : Thread nD τ).loc main_arg6) (ix2 0 x) := by
  obtain ⟨e0, e1, e2, e3⟩ := stacked_at (row (m ((c : Thread nD τ).loc main_arg3)))
    (row (m ((c : Thread nD τ).loc main_arg4))) (row (m ((c : Thread nD τ).loc main_arg5)))
    (row (m ((c : Thread nD τ).loc main_arg6))) x
  refine ⟨?_, ?_, ?_, ?_⟩
  · rw [blk3_entry, entry3, e0, row_self]
  · rw [blk3_entry, entry3, e1, row_self]
  · rw [blk3_entry, entry3, e2, row_self]
  · rw [blk3_entry, entry3, e3, row_self]

section Real

variable (c : Dev nD)
  (h0 : Reals (φ := .bf16) (m ((c : Thread nD τ).loc main_arg0))) (h1 : Reals (φ := .bf16) (m ((c : Thread nD τ).loc main_arg1)))
  (h2 : Reals (φ := .bf16) (m ((c : Thread nD τ).loc main_arg2))) (h3 : Reals (φ := .f32) (m ((c : Thread nD τ).loc main_arg3)))
  (h4 : Reals (φ := .f32) (m ((c : Thread nD τ).loc main_arg4))) (h5 : Reals (φ := .f32) (m ((c : Thread nD τ).loc main_arg5)))
  (h6 : Reals (φ := .f32) (m ((c : Thread nD τ).loc main_arg6)))

include h0 in
/-- A block of real queries is real. -/
theorem real0 (t : Fin cfg0.N) : Reals (s := S1x512x128) (φ := .bf16) (iblk m c 0 t) := by
  intro y
  obtain ⟨z, r, d, rfl⟩ : ∃ z r d, y = ix3 z r d := ⟨_, _, _, eq_ix3 y⟩
  obtain rfl : z = 0 := Subsingleton.elim _ _
  exact ⟨_, (blk0_at m c t r d).trans (h0 _).choose_spec⟩

include h1 in
/-- Real keys. -/
theorem real1 (t : Fin cfg0.N) : Reals (s := S1x8192x128) (φ := .bf16) (iblk m c 1 t) := by
  intro y
  obtain ⟨z, r, d, rfl⟩ : ∃ z r d, y = ix3 z r d := ⟨_, _, _, eq_ix3 y⟩
  obtain rfl : z = 0 := Subsingleton.elim _ _
  exact ⟨_, (blk1_at m c t r d).trans (h1 _).choose_spec⟩

include h2 in
/-- Real values. -/
theorem real2 (t : Fin cfg0.N) : Reals (s := S1x128x8192) (φ := .bf16) (iblk m c 2 t) := by
  intro y
  obtain ⟨z, r, d, rfl⟩ : ∃ z r d, y = ix3 z r d := ⟨_, _, _, eq_ix3 y⟩
  obtain rfl : z = 0 := Subsingleton.elim _ _
  exact ⟨_, (blk2_at m c t r d).trans (h2 _).choose_spec⟩

include h3 h4 h5 h6 in
/-- Real lambda vectors. -/
theorem real3 (t : Fin cfg0.N) : Reals (s := S4x64) (φ := .f32) (iblk m c 3 t) := by
  intro y
  obtain ⟨n, x, rfl⟩ : ∃ n x, y = ix2 n x := ⟨_, _, eq_ix2 y⟩
  obtain ⟨e0, e1, e2, e3⟩ := blk3_at m c t x
  fin_cases n
  · exact ⟨_, e0.trans (h3 _).choose_spec⟩
  · exact ⟨_, e1.trans (h4 _).choose_spec⟩
  · exact ⟨_, e2.trans (h5 _).choose_spec⟩
  · exact ⟨_, e3.trans (h6 _).choose_spec⟩

/-- A point's scores are the head's scores of the block's queries. -/
theorem blockScore_eq (t : Fin cfg0.N) (i : Fin 2) (r : Fin 512) : blockScore (iblk m c 0 t) (iblk m c 1 t) i r
    = Cert.ReferenceIdeal.Value.score (m ((c : Thread nD τ).loc main_arg0)) (m ((c : Thread nD τ).loc main_arg1))
        (batch t) (head t) i (query t r) := by
  funext k
  unfold blockScore Cert.ReferenceIdeal.Value.score
  refine Finset.sum_congr rfl fun d _ => ?_
  rw [blk0_at, blk1_at]
  congr 2 <;> simp only [Nat.add_assoc]

include h0 h1 h2 h3 h4 h5 h6 in
/-- What the body stores at a grid point is the reference's array there. -/
theorem point (t : Fin cfg0.N) (y : S1x512x128.Idx) : outsAt0 m c t y
    = Cert.ReferenceIdeal.Value.OUT (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (((cfg0.win 5).blk t).view.emb y) := by
  obtain ⟨z, r, e, rfl⟩ : ∃ z r e, y = ix3 z r e := ⟨_, _, _, eq_ix3 y⟩
  obtain rfl : z = 0 := Subsingleton.elim _ _
  rw [emb_at]
  refine Eq.trans ?_ (Cert.ReferenceIdeal.Value.OUT_at _ _ _ _ _ _ _ _ _ _ _ _).symm
  unfold outsAt0
  refine (out_at _ _ _ _ _ _ _ _ _ _ _ _ _ _ _ _ _ _ _ _ _ (real0 m c h0 t) (real1 m c h1 t) (real2 m c h2 t)
    (real3 m c h3 h4 h5 h6 t) r e).trans ?_
  unfold Cert.ReferenceIdeal.Value.out
  rw [blockScore_eq, blockScore_eq, blk4_at]
  simp only [blk2_at, fun x => (blk3_at m c t x).1, fun x => (blk3_at m c t x).2.1, fun x => (blk3_at m c t x).2.2.1,
    fun x => (blk3_at m c t x).2.2.2]

include h0 h1 h2 h3 h4 h5 h6 in
/-- The array the kernel leaves is the reference's. -/
theorem final : (dats m 0 c).arrAt 5 (cfgs 0).N
    = Cert.ReferenceIdeal.Value.OUT (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 5 _ (by decide +kernel) fun t _ y => ?_
  blk_simp
  rw [after0_5]
  exact point m c h0 h1 h2 h3 h4 h5 h6 t y

end Real

end Cert.KernelIdeal.Value

end
-- ==== Proof.NbrValue.lean ====
module

public import proofs.«01_k».proof.Proof.NbrBlock
public import proofs.«01_k».proof.Proof.NbrRef
public import proofs.«01_k».proof.Proof.AttnValue
public import Idealize.ShloMosaic.Lib.Pointwise

@[expose] public section

/-!
The array the neighbourhood attention leaves: each grid point's block is the reference's formula, and the blocks cover
the array.
-/

set_option maxRecDepth 16384

noncomputable section

open Idealize.ShloMosaic Idealize.ShloMosaic.TcCoe Idealize.SL.Sem
open Idealize.ShloMosaic.Pipeline (Dat)
open scoped BigOperators

namespace Cert.NbrIdeal.Value

open Cert.NbrIdeal Cert.NbrIdeal.Gen
open Cert.NbrRefIdeal.Value (first first_le keyRow tabRow)
open Cert.KernelIdeal.Value (Reals)

variable (m : (ℓ : Loc nD τ sig) → Buf (Elt Ideal) ℓ)

/-- Every window's block index at every grid point. -/
theorem idx : ∀ t : Fin cfg0.N, win0_0.index t = ![t.val / 128, t.val % 128, 0]
    ∧ win0_1.index t = ![t.val / 128, 0, 0]
    ∧ win0_2.index t = ![t.val / 128, 0, 0]
    ∧ win0_3.index t = ![0, 0, 0, 0]
    ∧ win0_4.index t = ![t.val / 128, t.val % 128, 0] :=
  (by decide +kernel : ∀ t : Fin grid0.N, _)

/-- Where the keys, the values and the table of each pair of heads are read. -/
theorem offs : ∀ t : Fin cfg0.N, let r := first (t.val % 128)
    k0_off1 (grid0.coords t) = ![0, r * 64, 0] ∧ k0_off3 (grid0.coords t) = ![0, r * 64, 128]
    ∧ k0_off5 (grid0.coords t) = ![0, r * 64, 256] ∧ k0_off7 (grid0.coords t) = ![0, r * 64, 384]
    ∧ k0_off2 (grid0.coords t) = ![r + 7 - t.val % 128, 0, 0, 0] ∧ k0_off4 (grid0.coords t) = ![r + 7 - t.val % 128, 1, 0, 0]
    ∧ k0_off6 (grid0.coords t) = ![r + 7 - t.val % 128, 2, 0, 0] ∧ k0_off8 (grid0.coords t) = ![r + 7 - t.val % 128, 3, 0, 0] :=
  (by decide +kernel : ∀ t : Fin grid0.N, _)

/-- What a pair of heads stores. -/
def stored (q : Vec Ideal S1x64x128 .bf16) (k v : Vec Ideal S1x512x128 .bf16) (t : Vec Ideal S8x1x64x128 .f32) :
    FVec Ideal S1x64x128 .bf16 := k0_pay6 k0_pay2 (k0_pay3 v) (k0_pay4 q k t) (k0_pay5 q k t)

section Run

variable (c : Dev nD) (i : grid0.Coords) (arg2 : Memref sig .tc .vmem S1x64x512 .bf16) (harg2 : arg2.IsWhole)
  (arg3 : Memref sig .tc .vmem S1x8192x512 .bf16) (harg3 : arg3.IsWhole) (arg4 : Memref sig .tc .vmem S1x8192x512 .bf16)
  (harg4 : arg4.IsWhole) (arg5 : Memref sig .tc .vmem S15x4x64x128 .f32) (harg5 : arg5.IsWhole)
  (arg6 : Memref sig .tc .vmem S1x64x512 .bf16) (harg6 : arg6.IsWhole) (x0 : Vec Ideal S1x64x512 .bf16)
  (x1 x2 : Vec Ideal S1x8192x512 .bf16) (x3 : Vec Ideal S15x4x64x128 .f32)

/-- The block is the four pairs' stores. -/
theorem out_eq : out0_A_4 c i arg2 harg2 arg3 harg3 arg4 harg4 arg5 harg5 arg6 harg6 x0 x1 x2 x3
    = View.canon (Val := Elt Ideal) (e := .bf16)
      [⟨Rect.unit (s := S1x64x512) ![0, 0, 384] S1x64x128.size inb_S1x64x512_S1x64x128_0_0_384,
          stored (View.ld x0 (Rect.unit (s := S1x64x512) ![0, 0, 384] S1x64x128.size inb_S1x64x512_S1x64x128_0_0_384))
            (View.ld x1 (Rect.unit (s := S1x8192x512) (k0_off7 i) S1x512x128.size (Facts₀.k0_off7_inb i)))
            (View.ld x2 (Rect.unit (s := S1x8192x512) (k0_off7 i) S1x512x128.size (Facts₀.k0_off7_inb i)))
            (View.ld x3 (Rect.unit (s := S15x4x64x128) (k0_off8 i) S8x1x64x128.size (Facts₀.k0_off8_inb i)))⟩,
        ⟨Rect.unit (s := S1x64x512) ![0, 0, 256] S1x64x128.size inb_S1x64x512_S1x64x128_0_0_256,
          stored (View.ld x0 (Rect.unit (s := S1x64x512) ![0, 0, 256] S1x64x128.size inb_S1x64x512_S1x64x128_0_0_256))
            (View.ld x1 (Rect.unit (s := S1x8192x512) (k0_off5 i) S1x512x128.size (Facts₀.k0_off5_inb i)))
            (View.ld x2 (Rect.unit (s := S1x8192x512) (k0_off5 i) S1x512x128.size (Facts₀.k0_off5_inb i)))
            (View.ld x3 (Rect.unit (s := S15x4x64x128) (k0_off6 i) S8x1x64x128.size (Facts₀.k0_off6_inb i)))⟩,
        ⟨Rect.unit (s := S1x64x512) ![0, 0, 128] S1x64x128.size inb_S1x64x512_S1x64x128_0_0_128,
          stored (View.ld x0 (Rect.unit (s := S1x64x512) ![0, 0, 128] S1x64x128.size inb_S1x64x512_S1x64x128_0_0_128))
            (View.ld x1 (Rect.unit (s := S1x8192x512) (k0_off3 i) S1x512x128.size (Facts₀.k0_off3_inb i)))
            (View.ld x2 (Rect.unit (s := S1x8192x512) (k0_off3 i) S1x512x128.size (Facts₀.k0_off3_inb i)))
            (View.ld x3 (Rect.unit (s := S15x4x64x128) (k0_off4 i) S8x1x64x128.size (Facts₀.k0_off4_inb i)))⟩,
        ⟨Rect.unit (s := S1x64x512) ![0, 0, 0] S1x64x128.size inb_S1x64x512_S1x64x128_0_0_0,
          stored (View.ld x0 (Rect.unit (s := S1x64x512) ![0, 0, 0] S1x64x128.size inb_S1x64x512_S1x64x128_0_0_0))
            (View.ld x1 (Rect.unit (s := S1x8192x512) (k0_off1 i) S1x512x128.size (Facts₀.k0_off1_inb i)))
            (View.ld x2 (Rect.unit (s := S1x8192x512) (k0_off1 i) S1x512x128.size (Facts₀.k0_off1_inb i)))
            (View.ld x3 (Rect.unit (s := S15x4x64x128) (k0_off2 i) S8x1x64x128.size (Facts₀.k0_off2_inb i)))⟩] := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  simp only [View.readAt_eq_ld, harg2.read_unread, harg3.read_unread, harg4.read_unread, harg5.read_unread]
  rfl

/-- A score over a point's blocks. -/
def score (r : Fin 128) (h : Fin 8) (w : Fin 64) (e : Fin 512) : EReal :=
  (∑ x : Fin 64, x0 (ix3 0 w ⟨h.val * 64 + x.val, by omega⟩)
      * x1 (ix3 0 ⟨first r.val * 64 + e.val, by have := first_le r.val; omega⟩ ⟨h.val * 64 + x.val, by omega⟩))
    + x3 (ix4 (tabRow r ⟨e.val / 64, by omega⟩) ⟨h.val / 2, by omega⟩ ⟨e.val % 64, by omega⟩
        ⟨h.val % 2 * 64 + w.val, by omega⟩)

/-- An entry of a point's block. -/
def entry (r : Fin 128) (w : Fin 64) (n : Fin 512) : EReal :=
  attend (score x0 x1 x3 r ⟨n.val / 64, by omega⟩ w)
    (fun e => x2 (ix3 0 ⟨first r.val * 64 + e.val, by have := first_le r.val; omega⟩ n))

/-- The scores of real blocks are real. -/
theorem score_real (h0 : ∀ y, ∃ r : ℝ, x0 y = (r : EReal)) (h1 : ∀ y, ∃ r : ℝ, x1 y = (r : EReal))
    (h3 : ∀ y, ∃ r : ℝ, x3 y = (r : EReal)) (r : Fin 128) (h : Fin 8) (w : Fin 64) (e : Fin 512) :
    ∃ a : ℝ, score x0 x1 x3 r h w e = (a : EReal) := by
  choose f hf using h0
  choose g hg using h1
  choose b hb using h3
  unfold score
  simp only [hf, hg, hb, ← EReal.coe_mul]
  rw [Cert.Softmax.coe_sum, ← EReal.coe_add]
  exact ⟨_, rfl⟩

/-- One pair's store at an index. -/
theorem stored_entry (h0 : ∀ y, ∃ r : ℝ, x0 y = (r : EReal)) (h1 : ∀ y, ∃ r : ℝ, x1 y = (r : EReal))
    (h3 : ∀ y, ∃ r : ℝ, x3 y = (r : EReal)) (r : Fin 128) (p : Fin 4)
    {oq : Fin 3 → ℕ} (iq : ∀ a, oq a + S1x64x128.size a ≤ S1x64x512.size a) (hq : oq = ![0, 0, p.val * 128])
    {ok : Fin 3 → ℕ} (ik : ∀ a, ok a + S1x512x128.size a ≤ S1x8192x512.size a) (hk : ok = ![0, first r.val * 64, p.val * 128])
    {ot : Fin 4 → ℕ} (it : ∀ a, ot a + S8x1x64x128.size a ≤ S15x4x64x128.size a)
    (ht : ot = ![first r.val + 7 - r.val, p.val, 0, 0]) (z : Fin 1) (w : Fin 64) (d : Fin 128) :
    stored (View.ld x0 (Rect.unit (s := S1x64x512) oq S1x64x128.size iq))
        (View.ld x1 (Rect.unit (s := S1x8192x512) ok S1x512x128.size ik))
        (View.ld x2 (Rect.unit (s := S1x8192x512) ok S1x512x128.size ik))
        (View.ld x3 (Rect.unit (s := S15x4x64x128) ot S8x1x64x128.size it)) (ix3 z w d)
      = entry x0 x1 x2 x3 r w ⟨p.val * 128 + d.val, by omega⟩ := by
  subst hq hk ht
  have rl := first_le r.val
  have rf : r.val ≤ first r.val + 7 := by
    have := r.isLt
    unfold first
    omega
  have hkv : ∀ (X : Vec Ideal S1x8192x512 .bf16) (e : Fin 512) (y : Fin 128) (n : Fin 512) (hn : n.val = p.val * 128 + y.val),
      View.ld X (Rect.unit (s := S1x8192x512) ![0, first r.val * 64, p.val * 128] S1x512x128.size ik) (ix3 0 e y)
        = X (ix3 0 ⟨first r.val * 64 + e.val, by omega⟩ n) := by
    intro X e y n hn
    refine View.ld_unit_apply_of _ _ _ _ _ _ fun a => ?_
    match a with
    | ⟨0, _⟩ => rfl
    | ⟨1, _⟩ => rfl
    | ⟨2, _⟩ => exact hn
  have hS : ∀ e, scores (View.ld x0 (Rect.unit (s := S1x64x512) ![0, 0, p.val * 128] S1x64x128.size iq))
      (View.ld x1 (Rect.unit (s := S1x8192x512) ![0, first r.val * 64, p.val * 128] S1x512x128.size ik))
      (View.ld x3 (Rect.unit (s := S15x4x64x128) ![first r.val + 7 - r.val, p.val, 0, 0] S8x1x64x128.size it))
      (ix2 e ⟨d.val / 64 * 64 + w.val, by omega⟩) = score x0 x1 x3 r ⟨(p.val * 128 + d.val) / 64, by omega⟩ w e := by
    intro e
    refine (score_at _ _ _ e ⟨d.val / 64, by omega⟩ w).trans ?_
    unfold score
    refine congrArg₂ (· + ·) (Finset.sum_congr rfl fun x _ => congrArg₂ (· * ·) ?_ ?_) ?_
    · refine View.ld_unit_apply_of _ _ _ _ _ _ fun a => ?_
      match a with
      | ⟨0, _⟩ => rfl
      | ⟨1, _⟩ => exact (Nat.zero_add _).symm
      | ⟨2, _⟩ =>
        change (p.val * 128 + d.val) / 64 * 64 + x.val = p.val * 128 + (d.val / 64 * 64 + x.val)
        omega
    · refine hkv x1 e _ _ ?_
      change (p.val * 128 + d.val) / 64 * 64 + x.val = p.val * 128 + (d.val / 64 * 64 + x.val)
      omega
    · refine View.ld_unit_apply_of _ _ _ _ _ _ fun a => ?_
      match a with
      | ⟨0, _⟩ =>
        change first r.val + e.val / 64 + 7 - r.val = first r.val + 7 - r.val + e.val / 64
        omega
      | ⟨1, _⟩ =>
        change (p.val * 128 + d.val) / 64 / 2 = p.val + 0
        omega
      | ⟨2, _⟩ => exact (Nat.zero_add _).symm
      | ⟨3, _⟩ =>
        change (p.val * 128 + d.val) / 64 % 2 * 64 + w.val = 0 + (d.val / 64 * 64 + w.val)
        omega
  unfold stored
  rw [pair_at _ _ _ _ z w d fun e => by
    rw [hS]
    exact score_real x0 x1 x3 h0 h1 h3 _ _ _ _]
  simp only [hS]
  unfold entry
  congr 1
  funext e
  exact hkv x2 e d _ rfl

end Run

/-- A pair's store read at a column of the whole block. -/
theorem read_pair (f : S1x64x128.Idx → EReal) (G : Fin 64 → Fin 512 → EReal) (o : ℕ) (hb : o + 128 ≤ 512)
    (hf : ∀ z w d, f (ix3 z w d) = G w ⟨o + d.val, by omega⟩) (x : S1x64x128.Idx) (w : Fin 64) (n : Fin 512)
    (h1 : w.val = (x 1).val) (h2 : n.val = o + (x 2).val) : f x = G w n := by
  obtain ⟨z, w', d, rfl⟩ : ∃ (z : Fin 1) (w' : Fin 64) (d : Fin 128), x = ix3 z w' d := ⟨x 0, x 1, x 2, eq_ix3 x⟩
  change n.val = o + d.val at h2
  obtain rfl : w = w' := Fin.ext h1
  rw [hf, show n = ⟨o + d.val, by omega⟩ from Fin.ext h2]

/-- The row a grid point handles. -/
def row (t : Fin cfg0.N) : Fin 128 := ⟨t.val % 128, by omega⟩

/-- A grid point's block at an index, where its blocks are real. -/
theorem out_at (c : Dev nD) (t : Fin cfg0.N) (h0 : ∀ y, ∃ r : ℝ, iblk m c 0 t y = (r : EReal))
    (h1 : ∀ y, ∃ r : ℝ, iblk m c 1 t y = (r : EReal)) (h3 : ∀ y, ∃ r : ℝ, iblk m c 3 t y = (r : EReal)) (z : Fin 1)
    (w : Fin 64) (n : Fin 512) :
    outsAt0 m c t (ix3 z w n) = entry (iblk m c 0 t) (iblk m c 1 t) (iblk m c 2 t) (iblk m c 3 t) (row t) w n := by
  obtain ⟨o1, o3, o5, o7, o2, o4, o6, o8⟩ := offs t
  unfold outsAt0
  rw [out_eq]
  canon_tiles x h'
  · exact read_pair _ (entry (iblk m c 0 t) (iblk m c 1 t) (iblk m c 2 t) (iblk m c 3 t) (row t)) 384 (by decide)
      (stored_entry _ _ _ _ h0 h1 h3 (row t) 3 _ rfl _ o7 _ o8) x w n h'1 h'2
  · exact read_pair _ (entry (iblk m c 0 t) (iblk m c 1 t) (iblk m c 2 t) (iblk m c 3 t) (row t)) 256 (by decide)
      (stored_entry _ _ _ _ h0 h1 h3 (row t) 2 _ rfl _ o5 _ o6) x w n h'1 h'2
  · exact read_pair _ (entry (iblk m c 0 t) (iblk m c 1 t) (iblk m c 2 t) (iblk m c 3 t) (row t)) 128 (by decide)
      (stored_entry _ _ _ _ h0 h1 h3 (row t) 1 _ rfl _ o3 _ o4) x w n h'1 h'2
  · exact read_pair _ (entry (iblk m c 0 t) (iblk m c 1 t) (iblk m c 2 t) (iblk m c 3 t) (row t)) 0 (by decide)
      (stored_entry _ _ _ _ h0 h1 h3 (row t) 0 _ rfl _ o1 _ o2) x w n h'1 (h'2.trans (Nat.zero_add _).symm)

/-- The reference's score of a key of a token's window. -/
def refScore (q k : FVec Ideal S2x8192x512 .bf16) (t : FVec Ideal S15x4x64x128 .f32) (b : Fin 2) (s : Fin 8192) (h : Fin 8)
    (e : Fin 512) : EReal :=
  (∑ d : Fin 64, q (ix3 b s ⟨h.val * 64 + d.val, by omega⟩)
      * k (ix3 b ⟨first (s.val / 64) * 64 + e.val, by have := first_le (s.val / 64); omega⟩ ⟨h.val * 64 + d.val, by omega⟩))
    + t (ix4 (tabRow ⟨s.val / 64, by omega⟩ ⟨e.val / 64, by omega⟩) ⟨h.val / 2, by omega⟩ ⟨e.val % 64, by omega⟩
        ⟨h.val % 2 * 64 + s.val % 64, by omega⟩)

open Cert.NbrRefIdeal.Value in
/-- The reference's scores are these. -/
theorem biased_eq (q k : FVec Ideal S2x8192x512 .bf16) (t : FVec Ideal S15x4x64x128 .f32) (b : Fin 2) (s : Fin 8192)
    (h : Fin 8) (e : Fin 512) :
    biased (Cert.NbrRefIdeal.Value.grid q) (windows (Cert.NbrRefIdeal.Value.grid k)) (bias (table t))
      (ix5 b ⟨s.val / 64, by omega⟩ h ⟨s.val % 64, by omega⟩ e) = refScore q k t b s h e := by
  rw [biased_at, bias_at, table_at]
  simp only [windows_at, grid_at]
  unfold refScore
  refine congrArg₂ (· + ·) (Finset.sum_congr rfl fun d _ => congrArg₂ (· * ·) ?_ ?_) rfl
  · exact congrArg (fun i => q (ix3 b i _)) (Fin.ext (show s.val / 64 * 64 + s.val % 64 = s.val by omega))
  · exact congrArg (fun i => k (ix3 b i _))
      (Fin.ext (show (first (s.val / 64) + e.val / 64) * 64 + e.val % 64 = first (s.val / 64) * 64 + e.val by omega))

open Cert.NbrRefIdeal.Value in
/-- The reference's array at an index. -/
theorem OUT_at (q k v : FVec Ideal S2x8192x512 .bf16) (t : FVec Ideal S15x4x64x128 .f32) (b : Fin 2) (s : Fin 8192)
    (f : Fin 512) :
    OUT q k v t (ix3 b s f) = attend (refScore q k t b s ⟨f.val / 64, by omega⟩)
      (fun e => v (ix3 b ⟨first (s.val / 64) * 64 + e.val, by have := first_le (s.val / 64); omega⟩ f)) := by
  unfold OUT
  rw [summed_at]
  simp only [weights_at, Cert.NbrRefIdeal.Value.exps_at, largest_at, biased_eq, windows_at, grid_at]
  unfold attend
  refine Finset.sum_congr rfl fun e _ => congrArg₂ (· * ·) (congrArg v ?_) rfl
  rw [show (⟨f.val / 64 * 64 + f.val % 64, by omega⟩ : Fin 512) = f from
    Fin.ext (show f.val / 64 * 64 + f.val % 64 = f.val by omega)]
  exact congrArg (fun i => ix3 b i f)
    (Fin.ext (show (first (s.val / 64) + e.val / 64) * 64 + e.val % 64 = first (s.val / 64) * 64 + e.val by omega))

theorem point_lt (t : Fin cfg0.N) : t.val < 256 := t.isLt

/-- The batch of a grid point. -/
def batch (t : Fin cfg0.N) : Fin 2 := ⟨t.val / 128, by have := point_lt t; omega⟩

/-- The token of a grid point's row. -/
def token (t : Fin cfg0.N) (w : Fin 64) : Fin 8192 := ⟨t.val % 128 * 64 + w.val, by omega⟩

theorem blk0_at (c : Dev nD) (t : Fin cfg0.N) (w : Fin 64) (n : Fin 512) :
    iblk m c 0 t (ix3 0 w n) = m ((c : Thread nD τ).loc main_arg0) (ix3 (batch t) (token t w) n) := by
  unfold batch token
  blk_point [iblk, V, idx t]

theorem blk1_at (c : Dev nD) (t : Fin cfg0.N) (s : Fin 8192) (n : Fin 512) :
    iblk m c 1 t (ix3 0 s n) = m ((c : Thread nD τ).loc main_arg1) (ix3 (batch t) s n) := by
  unfold batch
  blk_point [iblk, V, idx t]

theorem blk2_at (c : Dev nD) (t : Fin cfg0.N) (s : Fin 8192) (n : Fin 512) :
    iblk m c 2 t (ix3 0 s n) = m ((c : Thread nD τ).loc main_arg2) (ix3 (batch t) s n) := by
  unfold batch
  blk_point [iblk, V, idx t]

theorem blk3_at (c : Dev nD) (t : Fin cfg0.N) (o : Fin 15) (p : Fin 4) (k : Fin 64) (l : Fin 128) :
    iblk m c 3 t (ix4 o p k l) = m ((c : Thread nD τ).loc main_arg3) (ix4 o p k l) := by
  blk_point [iblk, V, idx t]

/-- A grid point's block is the reference's where the queries, keys and table are real. -/
theorem point (c : Dev nD) (h0 : Reals (φ := .bf16) (m ((c : Thread nD τ).loc main_arg0)))
    (h1 : Reals (φ := .bf16) (m ((c : Thread nD τ).loc main_arg1)))
    (h3 : Reals (φ := .f32) (m ((c : Thread nD τ).loc main_arg3))) (t : Fin cfg0.N) (z : Fin 1) (w : Fin 64) (n : Fin 512) :
    outsAt0 m c t (ix3 z w n)
      = Cert.NbrRefIdeal.Value.OUT (m ((c : Thread nD τ).loc main_arg0)) (m ((c : Thread nD τ).loc main_arg1))
          (m ((c : Thread nD τ).loc main_arg2)) (m ((c : Thread nD τ).loc main_arg3)) (ix3 (batch t) (token t w) n) := by
  have b0 : ∀ y, ∃ r : ℝ, iblk m c 0 t y = (r : EReal) := by
    intro y
    obtain ⟨a, b, d, rfl⟩ : ∃ (a : Fin 1) (b : Fin 64) (d : Fin 512), y = ix3 a b d := ⟨y 0, y 1, y 2, eq_ix3 y⟩
    obtain rfl : a = 0 := Subsingleton.elim _ _
    rw [blk0_at]
    exact h0 _
  have b1 : ∀ y, ∃ r : ℝ, iblk m c 1 t y = (r : EReal) := by
    intro y
    obtain ⟨a, b, d, rfl⟩ : ∃ (a : Fin 1) (b : Fin 8192) (d : Fin 512), y = ix3 a b d := ⟨y 0, y 1, y 2, eq_ix3 y⟩
    obtain rfl : a = 0 := Subsingleton.elim _ _
    rw [blk1_at]
    exact h1 _
  have b3 : ∀ y, ∃ r : ℝ, iblk m c 3 t y = (r : EReal) := by
    intro y
    obtain ⟨a, b, d, e, rfl⟩ : ∃ (a : Fin 15) (b : Fin 4) (d : Fin 64) (e : Fin 128), y = ix4 a b d e :=
      ⟨y 0, y 1, y 2, y 3, eq_ix4 y⟩
    rw [blk3_at]
    exact h3 _
  rw [out_at m c t b0 b1 b3, OUT_at]
  unfold entry
  have hrow : (token t w).val / 64 = (row t).val := by
    change (t.val % 128 * 64 + w.val) / 64 = t.val % 128
    omega
  have hcol : (token t w).val % 64 = w.val := by
    change (t.val % 128 * 64 + w.val) % 64 = w.val
    omega
  have hr : (⟨(token t w).val / 64, by omega⟩ : Fin 128) = row t := Fin.ext hrow
  congr 1
  · funext e
    unfold score refScore
    simp only [blk0_at, blk1_at, blk3_at, hr, hrow, hcol]
  · funext e
    simp only [blk2_at, hrow]

/-- The array the neighbourhood attention leaves is the reference's function of its arguments. -/
theorem final (c : Dev nD) (h0 : Reals (φ := .bf16) (m ((c : Thread nD τ).loc main_arg0)))
    (h1 : Reals (φ := .bf16) (m ((c : Thread nD τ).loc main_arg1)))
    (h3 : Reals (φ := .f32) (m ((c : Thread nD τ).loc main_arg3))) : (dats m 0 c).arrAt 4 (cfgs 0).N
      = Cert.NbrRefIdeal.Value.OUT (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  obtain ⟨z, w, n, rfl⟩ : ∃ (z : Fin 1) (w : Fin 64) (n : Fin 512), y = ix3 z w n := ⟨y 0, y 1, y 2, eq_ix3 y⟩
  refine (point m c h0 h1 h3 t z w n).trans ?_
  congr 1
  unfold batch token
  blk_ext [idx t]

end Cert.NbrIdeal.Value

end
-- ==== Proof.Rows.lean ====
module

public import Idealize.ShloMosaic.Lib.Pipeline.ValueKit
public import Idealize.ShloMosaic.Lib.Pointwise

@[expose] public section

/-!
The formulas of one token's row that the feed-forward and the output-projection programs share, over the extended
reals: the normalization of a row to mean 0 and variance 1, and the two spellings of `silu`.
-/

noncomputable section

open Idealize.ShloMosaic
open scoped BigOperators

namespace Cert.Rows

/-- The mean of a row of 1024 entries. -/
def mean (u : Fin 1024 → EReal) : EReal :=
  Ideal.div (∑ x, u x) (Ideal.ofBits FTy.f32 0x44800000#32)

/-- A row of 1024 entries brought to mean 0 and variance 1 (with the layer's epsilon), at column `n`. -/
def normed (u : Fin 1024 → EReal) (n : Fin 1024) : EReal :=
  (u n - mean u) *
    Ideal.rsqrt (Ideal.div (∑ x, (u x - mean u) * (u x - mean u)) (Ideal.ofBits FTy.f32 0x44800000#32)
      + Ideal.ofBits FTy.f32 0x3727C5AC#32)

/-- The exponential of an extended real is not negative. -/
theorem exp_nonneg (x : EReal) : 0 ≤ Ideal.exp x := by
  induction x using EReal.rec with
  | bot => exact le_refl (0 : EReal)
  | coe r => exact EReal.coe_nonneg.mpr (Real.exp_pos r).le
  | top => exact le_top

/-- `x / (1 + exp (0 - x))` is `x * (1 / (1 + exp (-x)))`, at every extended real: the divisor is at least one. -/
theorem silu_eq (x : EReal) :
    Ideal.div x (1 + Ideal.exp (0 - x)) = x * Ideal.div 1 (1 + Ideal.exp (-x)) := by
  have h : (1 + Ideal.exp (-x)) ≠ 0 := by
    have h0 := exp_nonneg (-x)
    have : (0 : EReal) < 1 + Ideal.exp (-x) :=
      lt_of_lt_of_le zero_lt_one (le_add_of_nonneg_right h0)
    exact this.ne'
  rw [zero_sub]
  simp only [Ideal.div, if_neg h, one_mul]

/-- One entry of the feed-forward residual sum: `alpha * x1 + (1 + gate) * (silu (h wg) * (h wu)) wd`, with the row `h`
    of the token, its residual entry `x1`, its gate entry, the two up projections and a column of the down projection. -/
def ffn (h : Fin 1024 → EReal) (wg wu : Fin 1024 → Fin 2816 → EReal) (wd : Fin 2816 → EReal) (gate x1 : EReal) : EReal :=
  Ideal.ofBits FTy.f32 0x3F9837F0#32 * x1 +
    (1 + gate) * ∑ f, (((∑ k, h k * wg k f) * Ideal.div 1 (1 + Ideal.exp (-∑ k, h k * wg k f)))
      * ∑ k, h k * wu k f) * wd f

/-- One entry of the output projection's residual sum: `alpha * x + (1 + gate) * (a wa + b wb)`, with the two attentions'
    rows `a`, `b` of the token, their halves of a column of the projection, its gate entry and its residual entry `x`. -/
def out (a b wa wb : Fin 512 → EReal) (gate x : EReal) : EReal :=
  Ideal.ofBits FTy.f32 0x3F9837F0#32 * x + (1 + gate) * ((∑ k, a k * wa k) + ∑ k, b k * wb k)

end Cert.Rows

end
-- ==== Proof.AdaValue.lean ====
module

public import proofs.«01_k».proof.Proof.Gen.AdaIdeal.Frame
public import proofs.«01_k».proof.Proof.Gen.AdaRefIdeal.Run
public import proofs.«01_k».proof.Proof.Rows

@[expose] public section

/-!
The modulation call: the reference entry by entry, and that the kernel writes the same array at every extended-real
input.
-/

set_option maxRecDepth 16384

noncomputable section

open Idealize.ShloMosaic Idealize.ShloMosaic.TcCoe Idealize.SL.Sem
open Idealize.ShloMosaic.Pipeline (Dat)
open scoped BigOperators

namespace Cert.AdaRefIdeal.Value

open Cert.AdaRefIdeal Cert.AdaRefIdeal.Gen

/-- The modulation of condition row `i 0` at column `i 1`: the row's `silu` times the column of the weight, plus the
    column's bias. -/
def OUT (x : FVec Ideal S8x1024 .f32) (w : FVec Ideal S1x1024x6144 .f32) (b : FVec Ideal S1x6144 .f32) :
    FVec Ideal S8x6144 .f32 := fun i =>
  (∑ k : Fin 1024, (x (ix2 (i 0) k) * Ideal.div 1 (1 + Ideal.exp (-x (ix2 (i 0) k)))) * w (ix3 0 k (i 1)))
    + b (ix2 0 (i 1))

/-- The reference's composed term is `OUT`. -/
theorem res_eq (x : FVec Ideal S8x1024 .f32) (w : FVec Ideal S1x1024x6144 .f32) (b : FVec Ideal S1x6144 .f32) :
    addf (Host.dotGeneral dot_S8x1024_S1024x6144_S8x6144_1_0_0_1_n_n none
        (mulf x (Host.divf (broadcastInDim S8x1024 ![] bcast_S_S8x1024 (constant S_ .f32 0x3F800000#32))
          (addf (broadcastInDim S8x1024 ![] bcast_S_S8x1024 (constant S_ .f32 0x3F800000#32)) (Host.exp (Host.negf x)))))
        (shapeCast _ w shapeCasts_S1x1024x6144_S1024x6144))
      (broadcastInDim S8x6144 ![0, 1] bcast_S1x6144_S8x6144_0_1
        (broadcastInDim S1x6144 ![1] bcast_S6144_S1x6144_1 (shapeCast _ b shapeCasts_S1x6144_S6144)))
      = OUT x w b := by
  funext i
  obtain ⟨r, n, rfl⟩ : ∃ (r : Fin 8) (n : Fin 6144), i = ix2 r n := ⟨i 0, i 1, eq_ix2 i⟩
  pointwise [OUT]

end Cert.AdaRefIdeal.Value

namespace Cert.AdaIdeal.Value

open Cert.AdaIdeal Cert.AdaIdeal.Gen

/-- The kernel's stored entry at a row and a column of the block. -/
theorem pay_at (x : Vec Ideal S8x1024 .f32) (w : Vec Ideal S1024x1536 .f32) (b : Vec Ideal S1x1536 .f32) (r : Fin 8)
    (n : Fin 1536) :
    k0_pay1 x w b (ix2 r n)
      = (∑ k : Fin 1024, (x (ix2 r k) * Ideal.div 1 (1 + Ideal.exp (-x (ix2 r k)))) * w (ix2 k n)) + b (ix2 0 n) := by
  pointwise [k0_pay1]
  simp only [Rows.silu_eq]

variable (m : (ℓ : Loc nD τ sig) → Buf (Elt Ideal) ℓ)

/-- Every window's block index at every grid point. -/
theorem idx : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- What the body stores at block index `y` of point `t` is the reference at the array index `y` sits at. -/
theorem point (c : Dev nD) (t : Fin cfg0.N) (y) :
    k0_pay1 (iblk m c 0 t) (iblk m c 1 t) (iblk m c 2 t) y
      = Cert.AdaRefIdeal.Value.OUT (m ((c : Thread nD τ).loc main_arg0)) (m ((c : Thread nD τ).loc main_arg1))
          (m ((c : Thread nD τ).loc main_arg2)) (((cfg0.win 3).blk t).view.emb y) := by
  idx_vars y
  rw [pay_at]
  pointwise [Cert.AdaRefIdeal.Value.OUT]
  blk_point [iblk, V, idx t]

/-- The array the modulation kernel leaves is the reference's function of its arguments. -/
theorem final (c : Dev nD) : (dats m 0 c).arrAt 3 (cfgs 0).N
      = Cert.AdaRefIdeal.Value.OUT (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  frame_out
  exact point m c t y

end Cert.AdaIdeal.Value

end
-- ==== Proof.FfnRef.lean ====
module

public import proofs.«01_k».proof.Proof.Gen.FfnRefIdeal.Run
public import proofs.«01_k».proof.Proof.Rows

@[expose] public section

/-!
The feed-forward reference, entry by entry: its composed term is cut into the gated hidden layer, the residual sum, the
row means and the normalized rows, and each part is read at an index.
-/

set_option maxRecDepth 16384

noncomputable section

open Idealize.ShloMosaic Idealize.ShloMosaic.TcCoe Idealize.SL.Sem
open scoped BigOperators

namespace Cert.FfnRefIdeal.Value

open Cert.FfnRefIdeal Cert.FfnRefIdeal.Gen

/-- A projection of the token rows to the hidden width. -/
def proj (h : FVec Ideal S2x8192x1024 .bf16) (w : FVec Ideal S1x1024x2816 .f32) : FVec Ideal S2x8192x2816 .f32 :=
  Host.dotGeneral dot_S2x8192x1024_S1024x2816_S2x8192x2816_2_0_01_1_n_n none (extf .f32 h bitsLt_bf16_f32)
    (shapeCast _ w shapeCasts_S1x1024x2816_S1024x2816)

/-- The gated hidden layer: `silu` of one projection times the other. -/
def hidden (p u : FVec Ideal S2x8192x2816 .f32) : FVec Ideal S2x8192x2816 .f32 :=
  mulf (mulf p (Host.divf (broadcastInDim S2x8192x2816 ![] bcast_S_S2x8192x2816 (constant S_ .f32 0x3F800000#32))
    (addf (broadcastInDim S2x8192x2816 ![] bcast_S_S2x8192x2816 (constant S_ .f32 0x3F800000#32))
      (Host.exp (Host.negf p))))) u

/-- The residual sum. -/
def residual (x1 : FVec Ideal S2x8192x1024 .f32) (mod3 : FVec Ideal S2x1x6144 .f32) (g : FVec Ideal S2x8192x2816 .f32)
    (wd : FVec Ideal S1x2816x1024 .f32) : FVec Ideal S2x8192x1024 .f32 :=
  addf (mulf (broadcastInDim S2x8192x1024 ![] bcast_S_S2x8192x1024 (constant S_ .f32 0x3F9837F0#32)) x1)
    (mulf (broadcastInDim S2x8192x1024 ![0, 1, 2] bcast_S2x1x1024_S2x8192x1024_0_1_2
      (addf (broadcastInDim S2x1x1024 ![] bcast_S_S2x1x1024 (constant S_ .f32 0x3F800000#32))
        (extractStridedSlice S2x1x1024 ![0, 0, 5120] mod3 slices_S2x1x6144_S2x1x1024_0_0_5120)))
      (Host.dotGeneral dot_S2x8192x2816_S2816x1024_S2x8192x1024_2_0_01_1_n_n none g
        (shapeCast _ wd shapeCasts_S1x2816x1024_S2816x1024)))

/-- The mean of every row. -/
def rowMean (u : FVec Ideal S2x8192x1024 .f32) : FVec Ideal S2x8192x1 .f32 :=
  Host.divf (broadcastInDim S2x8192x1 ![0, 1] bcast_S2x8192_S2x8192x1_0_1
    (Host.reduceAdd u (constant S_ .f32 0x00000000#32) reducesTo_S2x8192x1024_S2x8192_d2 h_S_))
    (broadcastInDim S2x8192x1 ![] bcast_S_S2x8192x1 (constant S_ .f32 0x44800000#32))

/-- Every row minus its mean. -/
def centred (u : FVec Ideal S2x8192x1024 .f32) (mu : FVec Ideal S2x8192x1 .f32) : FVec Ideal S2x8192x1024 .f32 :=
  subf u (broadcastInDim S2x8192x1024 ![0, 1, 2] bcast_S2x8192x1_S2x8192x1024_0_1_2 mu)

/-- Every centred row times the reciprocal root of its variance. -/
def scaled (d : FVec Ideal S2x8192x1024 .f32) (var : FVec Ideal S2x8192x1 .f32) : FVec Ideal S2x8192x1024 .f32 :=
  mulf d (broadcastInDim S2x8192x1024 ![0, 1, 2] bcast_S2x8192x1_S2x8192x1024_0_1_2
    (Host.rsqrt (addf var (broadcastInDim S2x8192x1 ![] bcast_S_S2x8192x1 (constant S_ .f32 0x3727C5AC#32)))))

/-- The rows normalized. -/
def norm (u : FVec Ideal S2x8192x1024 .f32) : FVec Ideal S2x8192x1024 .f32 :=
  scaled (centred u (rowMean u)) (rowMean (mulf (centred u (rowMean u)) (centred u (rowMean u))))

/-- Every row times a gain plus a shift. -/
def affine (y : FVec Ideal S2x8192x1024 .f32) (g b : FVec Ideal S1x1024 .f32) : FVec Ideal S2x8192x1024 .f32 :=
  addf (mulf y (broadcastInDim S2x8192x1024 ![0, 1, 2] bcast_S1x1x1024_S2x8192x1024_0_1_2
      (broadcastInDim S1x1x1024 ![2] bcast_S1024_S1x1x1024_2 (shapeCast _ g shapeCasts_S1x1024_S1024))))
    (broadcastInDim S2x8192x1024 ![0, 1, 2] bcast_S1x1x1024_S2x8192x1024_0_1_2
      (broadcastInDim S1x1x1024 ![2] bcast_S1024_S1x1x1024_2 (shapeCast _ b shapeCasts_S1x1024_S1024)))

/-- The normalized rows at an index are the row formula of that row. -/
theorem norm_at (u : FVec Ideal S2x8192x1024 .f32) (b : Fin 2) (s : Fin 8192) (n : Fin 1024) :
    norm u (ix3 b s n) = Rows.normed (fun n => u (ix3 b s n)) n := by
  have hm : ∀ w : FVec Ideal S2x8192x1024 .f32, rowMean w (ix3 b s 0) = Rows.mean (fun n => w (ix3 b s n)) := by
    intro w
    pointwise [rowMean, Rows.mean]
  have hc : ∀ n, centred u (rowMean u) (ix3 b s n) = u (ix3 b s n) - Rows.mean (fun n => u (ix3 b s n)) := by
    intro n
    rw [← hm]
    pointwise [centred]
  have hs : ∀ (d : FVec Ideal S2x8192x1024 .f32) (var : FVec Ideal S2x8192x1 .f32),
      scaled d var (ix3 b s n) = d (ix3 b s n) * Ideal.rsqrt (var (ix3 b s 0) + Ideal.ofBits FTy.f32 0x3727C5AC#32) := by
    intro d var
    pointwise [scaled]
  have hq : ∀ x, mulf (centred u (rowMean u)) (centred u (rowMean u)) (ix3 b s x)
      = (u (ix3 b s x) - Rows.mean (fun n => u (ix3 b s n))) * (u (ix3 b s x) - Rows.mean (fun n => u (ix3 b s n))) := by
    intro x
    rw [← hc x]
    pointwise []
  unfold norm
  rw [hs, hc, hm]
  simp only [hq]
  rfl

/-- Gain and shift at an index. -/
theorem affine_at (y : FVec Ideal S2x8192x1024 .f32) (g b : FVec Ideal S1x1024 .f32) (i : Fin 2) (s : Fin 8192)
    (n : Fin 1024) : affine y g b (ix3 i s n) = y (ix3 i s n) * g (ix2 0 n) + b (ix2 0 n) := by
  pointwise [affine]

/-- The residual sum at an index. -/
theorem residual_at (x1 : FVec Ideal S2x8192x1024 .f32) (mod3 : FVec Ideal S2x1x6144 .f32)
    (g : FVec Ideal S2x8192x2816 .f32) (wd : FVec Ideal S1x2816x1024 .f32) (b : Fin 2) (s : Fin 8192) (n : Fin 1024) :
    residual x1 mod3 g wd (ix3 b s n) = Ideal.ofBits FTy.f32 0x3F9837F0#32 * x1 (ix3 b s n)
      + (1 + mod3 (ix3 b 0 ⟨5120 + n.val, by omega⟩)) * ∑ f : Fin 2816, g (ix3 b s f) * wd (ix3 0 f n) := by
  pointwise [residual]

/-- A projection at an index. -/
theorem proj_at (h : FVec Ideal S2x8192x1024 .bf16) (w : FVec Ideal S1x1024x2816 .f32) (b : Fin 2) (s : Fin 8192)
    (f : Fin 2816) : proj h w (ix3 b s f) = ∑ k : Fin 1024, h (ix3 b s k) * w (ix3 0 k f) := by
  pointwise [proj]

/-- The gated hidden layer at an index. -/
theorem hidden_at (p u : FVec Ideal S2x8192x2816 .f32) (b : Fin 2) (s : Fin 8192) (f : Fin 2816) :
    hidden p u (ix3 b s f)
      = (p (ix3 b s f) * Ideal.div 1 (1 + Ideal.exp (-p (ix3 b s f)))) * u (ix3 b s f) := by
  pointwise [hidden]

/-- What the reference returns at batch `b`, token `s`, column `n`. -/
def OUT (h : FVec Ideal S2x8192x1024 .bf16) (x1 : FVec Ideal S2x8192x1024 .f32) (wg wu : FVec Ideal S1x1024x2816 .f32)
    (wd : FVec Ideal S1x2816x1024 .f32) (mod3 : FVec Ideal S2x1x6144 .f32) (g b : FVec Ideal S1x1024 .f32) :
    FVec Ideal S2x8192x1024 .f32 := fun i =>
  Rows.normed (fun n => Rows.ffn (fun k => h (ix3 (i 0) (i 1) k)) (fun k f => wg (ix3 0 k f)) (fun k f => wu (ix3 0 k f))
      (fun f => wd (ix3 0 f n)) (mod3 (ix3 (i 0) 0 ⟨5120 + n.val, by omega⟩)) (x1 (ix3 (i 0) (i 1) n))) (i 2)
    * g (ix2 0 (i 2)) + b (ix2 0 (i 2))

/-- The chain of the parts at an index. -/
theorem chain_at (h : FVec Ideal S2x8192x1024 .bf16) (x1 : FVec Ideal S2x8192x1024 .f32)
    (wg wu : FVec Ideal S1x1024x2816 .f32) (wd : FVec Ideal S1x2816x1024 .f32) (mod3 : FVec Ideal S2x1x6144 .f32)
    (g b : FVec Ideal S1x1024 .f32) (i : Fin 2) (s : Fin 8192) (n : Fin 1024) :
    affine (norm (residual x1 mod3 (hidden (proj h wg) (proj h wu)) wd)) g b (ix3 i s n)
      = OUT h x1 wg wu wd mod3 g b (ix3 i s n) := by
  rw [affine_at, norm_at]
  simp only [residual_at, hidden_at, proj_at]
  rfl

/-- The composed term is the chain of its parts. -/
theorem res_parts (m : (ℓ : Loc nD τ sig) → Buf (Elt Ideal) ℓ) (c : Dev nD) :
    res_main_v47 m c
      = affine (norm (residual (m ((c.tc : Thread nD τ).loc main_arg1)) (m ((c.tc : Thread nD τ).loc main_arg5))
          (hidden (proj (m ((c.tc : Thread nD τ).loc main_arg0)) (m ((c.tc : Thread nD τ).loc main_arg2)))
            (proj (m ((c.tc : Thread nD τ).loc main_arg0)) (m ((c.tc : Thread nD τ).loc main_arg3))))
          (m ((c.tc : Thread nD τ).loc main_arg4))))
          (m ((c.tc : Thread nD τ).loc main_arg6)) (m ((c.tc : Thread nD τ).loc main_arg7)) := rfl

/-- The reference's result is `OUT` of its arguments. -/
theorem res_eq (m : (ℓ : Loc nD τ sig) → Buf (Elt Ideal) ℓ) (c : Dev nD) :
    res_main_v47 m c
      = OUT (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [res_parts]
  funext i
  obtain ⟨b, s, n, rfl⟩ : ∃ (b : Fin 2) (s : Fin 8192) (n : Fin 1024), i = ix3 b s n := ⟨i 0, i 1, i 2, eq_ix3 i⟩
  exact chain_at _ _ _ _ _ _ _ _ b s n

end Cert.FfnRefIdeal.Value

end
-- ==== Proof.Rope.lean ====
module

public import proofs.«01_k».proof.Proof.Rows

@[expose] public section

/-!
The rotary turn: the rates and angles of the input projection, the lanes the kernel's rotations read, and the formula of one
turned entry, over the extended reals.
-/

set_option maxRecDepth 16384

noncomputable section

open Idealize.ShloMosaic
open scoped BigOperators

namespace Cert.Rope

/-- The rate of the pair of coordinates `e`: `10000 ^ (-e / 32)`, as an exponential. -/
def rate (e : ℕ) : ℝ := Real.exp (e * (-(Real.log 10000 * (1 / 32))))

/-- The angle of token `s` and pair `e`. -/
def angle (s e : ℕ) : ℝ := s * rate e

/-- The angle of a tile's row is the tile's angle plus the row's. -/
theorem angle_add (s r e : ℕ) : angle (s + r) e = angle s e + angle r e := by
  unfold angle
  push_cast
  ring

/-- One entry of a row `p` turned by an angle with cosine `c` and sine `s`: columns `n` and `n + 32` of every group of 64
    are one pair. -/
def turned (p : Fin 512 → EReal) (c s : EReal) (n : Fin 512) : EReal :=
  if h : n.val % 64 < 32 then p n * c - p ⟨n.val + 32, by omega⟩ * s else p n * c + p ⟨n.val - 32, by omega⟩ * s

/-- The word 10000 of the constants. -/
theorem word_10000 : Ideal.ofBits FTy.f32 0x461C4000#32 = ((10000 : ℝ) : EReal) := by
  simp [Ideal.ofBits, Ideal.ieee]
  rw [← EReal.coe_mul]
  norm_num

/-- The word 32 of the constants. -/
theorem word_32 : Ideal.ofBits FTy.f32 0x42000000#32 = ((32 : ℝ) : EReal) := by
  simp [Ideal.ofBits, Ideal.ieee]
  rw [← EReal.coe_mul]
  norm_num

/-- A natural number below `2 ^ 31` as a word, converted. -/
theorem convert_nat (n : ℕ) (h : n < 2147483648) :
    (FloatOps.sitofp FTy.f32 (BitVec.ofNat 32 n) : Ideal FTy.f32) = ((n : ℝ) : EReal) := by
  have e : (BitVec.ofNat 32 n).toInt = (n : ℤ) := by
    rw [BitVec.toInt_eq_toNat_cond, BitVec.toNat_ofNat, Nat.mod_eq_of_lt (by omega)]
    rw [if_pos (by omega)]
  show (((BitVec.ofNat 32 n).toInt : ℝ) : EReal) = _
  rw [e]
  norm_cast

/-- The low five bits of a lane number. -/
theorem lane_and : ∀ l : Fin 128, IntOp.andi (BitVec.ofNat 32 l.val) 31#32 = BitVec.ofNat 32 (l.val % 32) :=
  by decide +kernel

/-- The lanes in the first half of their group of 64. -/
theorem lane_half : ∀ l : Fin 128,
    IntOp.cmpi .slt (IntOp.andi (BitVec.ofNat 32 l.val) 63#32) 32#32 = if l.val % 64 < 32 then 1#1 else 0#1 :=
  by decide +kernel

/-- The rate as the kernels compute it: the exponential of the lane's pair number times the rate's exponent. -/
theorem rate_exp (l : Fin 128) :
    Ideal.exp ((FloatOps.sitofp FTy.f32 (IntOp.andi (BitVec.ofNat 32 l.val) 31#32) : Ideal FTy.f32)
      * ((-(Real.log 10000 * (1 / 32)) : ℝ) : EReal)) = ((rate (l.val % 32) : ℝ) : EReal) := by
  rw [lane_and, convert_nat _ (by omega), ← EReal.coe_mul]
  rfl

/-- The exponent as the host computes it. -/
theorem exponent_host :
    Ideal.div (-(Ideal.log (Ideal.ofBits FTy.f32 0x461C4000#32))) (Ideal.ofBits FTy.f32 0x42000000#32)
      = ((-(Real.log 10000 * (1 / 32)) : ℝ) : EReal) := by
  rw [word_10000, word_32, Ideal.div_coe (by norm_num), Ideal.log_coe, if_neg (by norm_num), ← EReal.coe_neg,
    ← EReal.coe_mul]
  congr 1
  ring

/-- The rate as the reference computes it: the reciprocal of a power of 10000. -/
theorem rate_pow (e : Fin 32) :
    Ideal.div 1 (Ideal.pow (Ideal.ofBits FTy.f32 0x461C4000#32)
      (Ideal.div (FloatOps.sitofp FTy.f32 (BitVec.ofNat 32 e.val) : Ideal FTy.f32) (Ideal.ofBits FTy.f32 0x42000000#32)))
      = ((rate e.val : ℝ) : EReal) := by
  rw [word_10000, word_32, convert_nat _ (by omega), Ideal.div_coe (by norm_num), ← EReal.coe_mul, Ideal.pow_coe_coe]
  have hp : (0 : ℝ) < Real.rpow 10000 ((e.val : ℝ) * (1 / 32)) := Real.rpow_pos_of_pos (by norm_num) _
  rw [Ideal.div_coe hp.ne', one_mul]
  congr 1
  change 1 / (10000 : ℝ) ^ ((e.val : ℝ) * (1 / 32)) = _
  rw [Real.rpow_def_of_pos (by norm_num), one_div, ← Real.exp_neg]
  unfold rate
  congr 1
  ring

/-- The cosine of an angle sum, as the kernel forms it. -/
theorem cos_sum (s r e : ℕ) : ((Real.cos (angle s e) : ℝ) : EReal) * ((Real.cos (angle r e) : ℝ) : EReal)
      - ((Real.sin (angle s e) : ℝ) : EReal) * ((Real.sin (angle r e) : ℝ) : EReal)
    = ((Real.cos (angle (s + r) e) : ℝ) : EReal) := by
  rw [angle_add, Real.cos_add, EReal.coe_sub, EReal.coe_mul, EReal.coe_mul]

/-- The sine of an angle sum, as the kernel forms it. -/
theorem sin_sum (s r e : ℕ) : ((Real.sin (angle s e) : ℝ) : EReal) * ((Real.cos (angle r e) : ℝ) : EReal)
      + ((Real.cos (angle s e) : ℝ) : EReal) * ((Real.sin (angle r e) : ℝ) : EReal)
    = ((Real.sin (angle (s + r) e) : ℝ) : EReal) := by
  rw [angle_add, Real.sin_add, EReal.coe_add, EReal.coe_mul, EReal.coe_mul]

/-- One entry of the kernel's turn of a group of 128 lanes starting at column `o`: the lane times the cosine, plus the
    partner lane, which a rotation of the lanes brings, times the sine with the partner's sign. -/
theorem turn_eq (p : Fin 512 → EReal) (c s : EReal) (o : ℕ) (ho : o % 128 = 0) (hb : o + 128 ≤ 512) (l : Fin 128) :
    p ⟨o + l.val, by omega⟩ * c
      + Scalar.select (IntOp.cmpi .slt (IntOp.andi (BitVec.ofNat 32 l.val) 63#32) 32#32)
          (p ⟨o + (l.val + 128 - 96) % 128, by omega⟩) (p ⟨o + (l.val + 128 - 32) % 128, by omega⟩)
        * Scalar.select (IntOp.cmpi .slt (IntOp.andi (BitVec.ofNat 32 l.val) 63#32) 32#32) (0 - s) s
      = turned p c s ⟨o + l.val, by omega⟩ := by
  rw [lane_half]
  unfold turned
  by_cases h : l.val % 64 < 32
  · rw [if_pos h, dif_pos (by change (o + l.val) % 64 < 32; omega)]
    have e : (⟨o + (l.val + 128 - 96) % 128, by omega⟩ : Fin 512) = ⟨o + l.val + 32, by omega⟩ :=
      Fin.ext (by change o + (l.val + 128 - 96) % 128 = o + l.val + 32; omega)
    change _ + p ⟨o + (l.val + 128 - 96) % 128, _⟩ * (0 - s) = _ - p ⟨o + l.val + 32, _⟩ * s
    rw [e, zero_sub, mul_neg, ← sub_eq_add_neg]
  · rw [if_neg h, dif_neg (by change ¬ (o + l.val) % 64 < 32; omega)]
    have e : (⟨o + (l.val + 128 - 32) % 128, by omega⟩ : Fin 512) = ⟨o + l.val - 32, by omega⟩ :=
      Fin.ext (by change o + (l.val + 128 - 32) % 128 = o + l.val - 32; omega)
    change _ + p ⟨o + (l.val + 128 - 32) % 128, _⟩ * s = _ + p ⟨o + l.val - 32, _⟩ * s
    rw [e]

end Cert.Rope

end
-- ==== Proof.InpRef.lean ====
module

public import proofs.«01_k».proof.Proof.Gen.InpRefIdeal.Run
public import proofs.«01_k».proof.Proof.FfnRef
public import proofs.«01_k».proof.Proof.Rope
public import Idealize.ShloMosaic.Lib.Claim

@[expose] public section

/-!
The input-projection reference, entry by entry, over the parts of the normalization stated for the feed-forward reference.
-/

set_option maxRecDepth 16384

noncomputable section

open Idealize.ShloMosaic Idealize.ShloMosaic.TcCoe Idealize.SL.Sem
open scoped BigOperators

namespace Cert.InpRefIdeal.Value

open Cert.InpRefIdeal Cert.InpRefIdeal.Gen

/-- One entry of the projection: the normalized row scaled and shifted, times a column. -/
def entry (x scale shift w : Fin 1024 → EReal) : EReal :=
  ∑ k, (Rows.normed x k * (1 + scale k) + shift k) * w k

/-- The normalized rows scaled, shifted and projected. -/
def proj (y : FVec Ideal S2x8192x1024 .f32) (mod3 : FVec Ideal S2x1x6144 .f32) (w : FVec Ideal S1x1024x3072 .f32) :
    FVec Ideal S2x8192x3072 .f32 :=
  Host.dotGeneral dot_S2x8192x1024_S1024x3072_S2x8192x3072_2_0_01_1_n_n none
    (addf (mulf y (broadcastInDim S2x8192x1024 ![0, 1, 2] bcast_S2x1x1024_S2x8192x1024_0_1_2
        (addf (broadcastInDim S2x1x1024 ![] bcast_S_S2x1x1024 (constant S_ .f32 0x3F800000#32))
          (extractStridedSlice S2x1x1024 ![0, 0, 1024] mod3 slices_S2x1x6144_S2x1x1024_0_0_1024))))
      (broadcastInDim S2x8192x1024 ![0, 1, 2] bcast_S2x1x1024_S2x8192x1024_0_1_2
        (extractStridedSlice S2x1x1024 ![0, 0, 0] mod3 slices_S2x1x6144_S2x1x1024_0_0_0)))
    (shapeCast _ w shapeCasts_S1x1024x3072_S1024x3072)

/-- The rotary rates, one per pair of coordinates. -/
def rates : FVec Ideal S32 .f32 :=
  Host.divf (broadcastInDim S32 ![] bcast_S_S32 (constant S_ .f32 0x3F800000#32))
    (Host.powf (broadcastInDim S32 ![] bcast_S_S32 (constant S_ .f32 0x461C4000#32))
      (Host.divf (sitofp .f32 (iotaInDim S32 32 0)) (broadcastInDim S32 ![] bcast_S_S32 (constant S_ .f32 0x42000000#32))))

/-- The angles of every token. -/
def angles : FVec Ideal S8192x32 .f32 :=
  mulf (broadcastInDim S8192x32 ![0, 1] bcast_S8192x1_S8192x32_0_1
      (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1 rates))

/-- A table of every token's pairs laid out over the batches, heads and halves. -/
def wide (a : FVec Ideal S8192x32 .f32) : FVec Ideal S2x8192x4x2x32 .f32 :=
  broadcastInDim S2x8192x4x2x32 ![0, 1, 2, 3, 4] bcast_S1x8192x1x1x32_S2x8192x4x2x32_0_1_2_3_4
    (broadcastInDim S1x8192x1x1x32 ![1, 4] bcast_S8192x32_S1x8192x1x1x32_1_4 a)

/-- The first and the second coordinates of the pairs. -/
def firsts (p : FVec Ideal S2x8192x512 .f32) : FVec Ideal S2x8192x4x2x32 .f32 :=
  extractStridedSlice S2x8192x4x2x32 ![0, 0, 0, 0, 0] (shapeCast _ p shapeCasts_S2x8192x512_S2x8192x4x2x64)
    slices_S2x8192x4x2x64_S2x8192x4x2x32_0_0_0_0_0
@[inherit_doc firsts]
def seconds (p : FVec Ideal S2x8192x512 .f32) : FVec Ideal S2x8192x4x2x32 .f32 :=
  extractStridedSlice S2x8192x4x2x32 ![0, 0, 0, 0, 32] (shapeCast _ p shapeCasts_S2x8192x512_S2x8192x4x2x64)
    slices_S2x8192x4x2x64_S2x8192x4x2x32_0_0_0_0_32

/-- The pairs put side by side again. -/
def joined (a b : FVec Ideal S2x8192x4x2x32 .f32) : FVec Ideal S2x8192x512 .f32 :=
  shapeCast _ (concatenate S2x8192x4x2x64 4 [⟨S2x8192x4x2x32, a⟩, ⟨S2x8192x4x2x32, b⟩]
    concatenates_S2x8192x4x2x32_S2x8192x4x2x32_S2x8192x4x2x64_d4) shapeCasts_S2x8192x4x2x64_S2x8192x512

/-- The rotary turn of an array. -/
def rope (p : FVec Ideal S2x8192x512 .f32) : FVec Ideal S2x8192x512 .f32 :=
  joined (subf (mulf (firsts p) (wide (Host.cos angles))) (mulf (seconds p) (wide (Host.sin angles))))
    (addf (mulf (seconds p) (wide (Host.cos angles))) (mulf (firsts p) (wide (Host.sin angles))))

/-- The constant 1/8 as an array. -/
def eighth : FVec Ideal S2x8192x512 .f32 := broadcastInDim S2x8192x512 ![] bcast_S_S2x8192x512 (constant S_ .f32 0x3E000000#32)

/-- A projected entry. -/
theorem proj_at (y : FVec Ideal S2x8192x1024 .f32) (mod3 : FVec Ideal S2x1x6144 .f32) (w : FVec Ideal S1x1024x3072 .f32)
    (b : Fin 2) (s : Fin 8192) (n : Fin 3072) :
    proj y mod3 w (ix3 b s n) = ∑ k : Fin 1024, (y (ix3 b s k) * (1 + mod3 (ix3 b 0 ⟨1024 + k.val, by omega⟩))
      + mod3 (ix3 b 0 ⟨k.val, by omega⟩)) * w (ix3 0 k n) := by
  pointwise [proj]

/-- A projected entry of the normalized rows. -/
theorem proj_norm_at (x : FVec Ideal S2x8192x1024 .f32) (mod3 : FVec Ideal S2x1x6144 .f32)
    (w : FVec Ideal S1x1024x3072 .f32) (b : Fin 2) (s : Fin 8192) (n : Fin 3072) :
    proj (FfnRefIdeal.Value.norm x) mod3 w (ix3 b s n) = entry (fun k => x (ix3 b s k))
      (fun k => mod3 (ix3 b 0 ⟨1024 + k.val, by omega⟩)) (fun k => mod3 (ix3 b 0 ⟨k.val, by omega⟩))
      (fun k => w (ix3 0 k n)) := by
  rw [proj_at]
  simp only [FfnRefIdeal.Value.norm_at]
  rfl

/-- The rate of a pair. -/
theorem rates_at (e : Fin 32) : rates (ix1 e) = ((Rope.rate e.val : ℝ) : EReal) := by
  refine Eq.trans ?_ (Rope.rate_pow e)
  pointwise [rates]

/-- The angle of a token and a pair. -/
theorem angles_at (s : Fin 8192) (e : Fin 32) : angles (ix2 s e) = ((Rope.angle s.val e.val : ℝ) : EReal) := by
  have h : angles (ix2 s e) = (FloatOps.sitofp FTy.f32 (BitVec.ofNat 32 s.val) : Ideal FTy.f32) * rates (ix1 e) := by
    pointwise [angles]
  rw [h, rates_at, Rope.convert_nat _ (by omega), ← EReal.coe_mul]
  rfl

/-- The tables at an index. -/
theorem wide_cos (b : Fin 2) (s : Fin 8192) (g : Fin 4) (j : Fin 2) (e : Fin 32) :
    wide (Host.cos angles) (ix5 b s g j e) = ((Real.cos (Rope.angle s.val e.val) : ℝ) : EReal) := by
  have h : wide (Host.cos angles) (ix5 b s g j e) = Ideal.cos (angles (ix2 s e)) := by
    pointwise [wide]
  rw [h, angles_at]
  rfl
@[inherit_doc wide_cos]
theorem wide_sin (b : Fin 2) (s : Fin 8192) (g : Fin 4) (j : Fin 2) (e : Fin 32) :
    wide (Host.sin angles) (ix5 b s g j e) = ((Real.sin (Rope.angle s.val e.val) : ℝ) : EReal) := by
  have h : wide (Host.sin angles) (ix5 b s g j e) = Ideal.sin (angles (ix2 s e)) := by
    pointwise [wide]
  rw [h, angles_at]
  rfl

/-- The first coordinate of a pair. -/
theorem firsts_at (p : FVec Ideal S2x8192x512 .f32) (b : Fin 2) (s : Fin 8192) (g : Fin 4) (j : Fin 2) (e : Fin 32) :
    firsts p (ix5 b s g j e) = p (ix3 b s ⟨g.val * 128 + j.val * 64 + e.val, by omega⟩) := by
  pointwise [firsts]

/-- The second coordinate of a pair. -/
theorem seconds_at (p : FVec Ideal S2x8192x512 .f32) (b : Fin 2) (s : Fin 8192) (g : Fin 4) (j : Fin 2) (e : Fin 32) :
    seconds p (ix5 b s g j e) = p (ix3 b s ⟨g.val * 128 + j.val * 64 + (32 + e.val), by omega⟩) := by
  pointwise [seconds]

/-- The joined pairs at an index. -/
theorem joined_at (x y : FVec Ideal S2x8192x4x2x32 .f32) (b : Fin 2) (s : Fin 8192) (n : Fin 512) :
    joined x y (ix3 b s n) = if h : n.val % 64 < 32 then
      x (ix5 b s ⟨n.val / 128, by omega⟩ ⟨n.val / 64 % 2, by omega⟩ ⟨n.val % 64, by omega⟩)
      else y (ix5 b s ⟨n.val / 128, by omega⟩ ⟨n.val / 64 % 2, by omega⟩ ⟨n.val % 64 - 32, by omega⟩) := by
  pointwise [joined]

/-- A row turned by the token's angles. -/
def turnedRow (p : Fin 512 → EReal) (s : ℕ) (n : Fin 512) : EReal :=
  Rope.turned p ((Real.cos (Rope.angle s (n.val % 32)) : ℝ) : EReal) ((Real.sin (Rope.angle s (n.val % 32)) : ℝ) : EReal) n

/-- The rotary turn at an index. -/
theorem rope_at (p : FVec Ideal S2x8192x512 .f32) (b : Fin 2) (s : Fin 8192) (n : Fin 512) :
    rope p (ix3 b s n) = turnedRow (fun n => p (ix3 b s n)) s.val n := by
  unfold rope turnedRow Rope.turned
  rw [joined_at]
  by_cases h : n.val % 64 < 32
  · rw [dif_pos h, dif_pos h]
    show firsts p _ * wide (Host.cos angles) _ - seconds p _ * wide (Host.sin angles) _ = _
    rw [wide_cos, wide_sin, firsts_at, seconds_at]
    simp only [show n.val % 64 = n.val % 32 by omega,
      show n.val / 128 * 128 + n.val / 64 % 2 * 64 + n.val % 32 = n.val by omega,
      show n.val / 128 * 128 + n.val / 64 % 2 * 64 + (32 + n.val % 32) = n.val + 32 by omega]
  · rw [dif_neg h, dif_neg h]
    show seconds p _ * wide (Host.cos angles) _ + firsts p _ * wide (Host.sin angles) _ = _
    rw [wide_cos, wide_sin, firsts_at, seconds_at]
    simp only [show n.val % 64 - 32 = n.val % 32 by omega,
      show n.val / 128 * 128 + n.val / 64 % 2 * 64 + (32 + n.val % 32) = n.val by omega,
      show n.val / 128 * 128 + n.val / 64 % 2 * 64 + n.val % 32 = n.val - 32 by omega]

/-- Columns `o`, `o + 1`, … of a token's projected row. -/
def part (x : FVec Ideal S2x8192x1024 .f32) (mod3 : FVec Ideal S2x1x6144 .f32) (w : FVec Ideal S1x1024x3072 .f32)
    (o : ℕ) (ho : o ≤ 2560) (b : Fin 2) (s : Fin 8192) (n : Fin 512) : EReal :=
  entry (fun k => x (ix3 b s k)) (fun k => mod3 (ix3 b 0 ⟨1024 + k.val, by omega⟩))
    (fun k => mod3 (ix3 b 0 ⟨k.val, by omega⟩)) (fun k => w (ix3 0 k ⟨o + n.val, by omega⟩))

/-- A projected part scaled by 1/8. -/
def SCALED (x : FVec Ideal S2x8192x1024 .f32) (mod3 : FVec Ideal S2x1x6144 .f32) (w : FVec Ideal S1x1024x3072 .f32) :
    FVec Ideal S2x8192x512 .bf16 := fun i =>
  part x mod3 w 0 (by omega) (i 0) (i 1) (i 2) * Ideal.ofBits FTy.f32 0x3E000000#32

/-- A projected part as it is. -/
def PLAIN (o : ℕ) (ho : o ≤ 2560) (x : FVec Ideal S2x8192x1024 .f32) (mod3 : FVec Ideal S2x1x6144 .f32)
    (w : FVec Ideal S1x1024x3072 .f32) : FVec Ideal S2x8192x512 .bf16 := fun i =>
  part x mod3 w o ho (i 0) (i 1) (i 2)

/-- A projected part turned and scaled by 1/8. -/
def TURNED_SCALED (x : FVec Ideal S2x8192x1024 .f32) (mod3 : FVec Ideal S2x1x6144 .f32)
    (w : FVec Ideal S1x1024x3072 .f32) : FVec Ideal S2x8192x512 .bf16 := fun i =>
  turnedRow (part x mod3 w 1536 (by omega) (i 0) (i 1)) (i 1).val (i 2) * Ideal.ofBits FTy.f32 0x3E000000#32

/-- A projected part turned. -/
def TURNED (x : FVec Ideal S2x8192x1024 .f32) (mod3 : FVec Ideal S2x1x6144 .f32) (w : FVec Ideal S1x1024x3072 .f32) :
    FVec Ideal S2x8192x512 .bf16 := fun i =>
  turnedRow (part x mod3 w 2048 (by omega) (i 0) (i 1)) (i 1).val (i 2)

/-- A projected part with its columns before its tokens. -/
def FLIPPED (x : FVec Ideal S2x8192x1024 .f32) (mod3 : FVec Ideal S2x1x6144 .f32) (w : FVec Ideal S1x1024x3072 .f32) :
    FVec Ideal S2x512x8192 .bf16 := fun i =>
  part x mod3 w 2560 (by omega) (i 0) (i 2) (i 1)

/-- The six parts of the projection, as the reference cuts them. -/
theorem cut_at (q : FVec Ideal S2x8192x3072 .f32) (b : Fin 2) (s : Fin 8192) (n : Fin 512) :
    truncf (ψ := .bf16) (mulf (extractStridedSlice S2x8192x512 ![0, 0, 0] q slices_S2x8192x3072_S2x8192x512_0_0_0)
        (broadcastInDim S2x8192x512 ![] bcast_S_S2x8192x512 (constant S_ .f32 0x3E000000#32))) bitsLt_bf16_f32 (ix3 b s n)
      = q (ix3 b s ⟨0 + n.val, by omega⟩) * Ideal.ofBits FTy.f32 0x3E000000#32
    ∧ truncf .bf16 (extractStridedSlice S2x8192x512 ![0, 0, 512] q slices_S2x8192x3072_S2x8192x512_0_0_512)
        bitsLt_bf16_f32 (ix3 b s n) = q (ix3 b s ⟨512 + n.val, by omega⟩)
    ∧ truncf .bf16 (extractStridedSlice S2x8192x512 ![0, 0, 1024] q slices_S2x8192x3072_S2x8192x512_0_0_1024)
        bitsLt_bf16_f32 (ix3 b s n) = q (ix3 b s ⟨1024 + n.val, by omega⟩)
    ∧ extractStridedSlice S2x8192x512 ![0, 0, 1536] q slices_S2x8192x3072_S2x8192x512_0_0_1536 (ix3 b s n)
      = q (ix3 b s ⟨1536 + n.val, by omega⟩)
    ∧ extractStridedSlice S2x8192x512 ![0, 0, 2048] q slices_S2x8192x3072_S2x8192x512_0_0_2048 (ix3 b s n)
      = q (ix3 b s ⟨2048 + n.val, by omega⟩)
    ∧ truncf .bf16 (transpose S2x512x8192 [0, 2, 1]
        (extractStridedSlice S2x8192x512 ![0, 0, 2560] q slices_S2x8192x3072_S2x8192x512_0_0_2560)
        transposes_S2x8192x512_S2x512x8192_0_2_1) bitsLt_bf16_f32 (ix3 b n s) = q (ix3 b s ⟨2560 + n.val, by omega⟩) := by
  refine ⟨?_, ?_, ?_, ?_, ?_, ?_⟩ <;> pointwise []

section
variable (m : (ℓ : Loc nD τ sig) → Buf (Elt Ideal) ℓ) (c : Dev nD)

/-- The normalized, scaled, shifted and projected rows of the program's arguments. -/
def projected : FVec Ideal S2x8192x3072 .f32 :=
  proj (FfnRefIdeal.Value.norm (m ((c.tc : Thread nD τ).loc main_arg0))) (m ((c.tc : Thread nD τ).loc main_arg1))
    (m ((c.tc : Thread nD τ).loc main_arg2))

/-- A projected entry of the program's arguments. -/
theorem projected_at (o : ℕ) (ho : o ≤ 2560) (b : Fin 2) (s : Fin 8192) (n : Fin 512) :
    projected m c (ix3 b s ⟨o + n.val, by omega⟩) = part (m ((c.tc : Thread nD τ).loc main_arg0))
      (m ((c.tc : Thread nD τ).loc main_arg1)) (m ((c.tc : Thread nD τ).loc main_arg2)) o ho b s n :=
  proj_norm_at _ _ _ _ _ _

/-- The first result. -/
theorem res0_eq : truncf (ψ := .bf16) (mulf
      (extractStridedSlice S2x8192x512 ![0, 0, 0] (projected m c) slices_S2x8192x3072_S2x8192x512_0_0_0)
      (broadcastInDim S2x8192x512 ![] bcast_S_S2x8192x512 (constant S_ .f32 0x3E000000#32))) bitsLt_bf16_f32
    = SCALED (m ((c.tc : Thread nD τ).loc main_arg0)) (m ((c.tc : Thread nD τ).loc main_arg1))
        (m ((c.tc : Thread nD τ).loc main_arg2)) := by
  funext i
  obtain ⟨b, s, n, rfl⟩ : ∃ (b : Fin 2) (s : Fin 8192) (n : Fin 512), i = ix3 b s n := ⟨i 0, i 1, i 2, eq_ix3 i⟩
  rw [(cut_at _ b s n).1, projected_at m c 0 (by omega)]
  rfl

/-- The second result. -/
theorem res1_eq : truncf (ψ := .bf16)
      (extractStridedSlice S2x8192x512 ![0, 0, 512] (projected m c) slices_S2x8192x3072_S2x8192x512_0_0_512) bitsLt_bf16_f32
    = PLAIN 512 (by omega) (m ((c.tc : Thread nD τ).loc main_arg0)) (m ((c.tc : Thread nD τ).loc main_arg1))
        (m ((c.tc : Thread nD τ).loc main_arg2)) := by
  funext i
  obtain ⟨b, s, n, rfl⟩ : ∃ (b : Fin 2) (s : Fin 8192) (n : Fin 512), i = ix3 b s n := ⟨i 0, i 1, i 2, eq_ix3 i⟩
  rw [(cut_at _ b s n).2.1, projected_at m c 512 (by omega)]
  rfl

/-- The third result. -/
theorem res2_eq : truncf (ψ := .bf16)
      (extractStridedSlice S2x8192x512 ![0, 0, 1024] (projected m c) slices_S2x8192x3072_S2x8192x512_0_0_1024) bitsLt_bf16_f32
    = PLAIN 1024 (by omega) (m ((c.tc : Thread nD τ).loc main_arg0)) (m ((c.tc : Thread nD τ).loc main_arg1))
        (m ((c.tc : Thread nD τ).loc main_arg2)) := by
  funext i
  obtain ⟨b, s, n, rfl⟩ : ∃ (b : Fin 2) (s : Fin 8192) (n : Fin 512), i = ix3 b s n := ⟨i 0, i 1, i 2, eq_ix3 i⟩
  rw [(cut_at _ b s n).2.2.1, projected_at m c 1024 (by omega)]
  rfl

/-- The fourth result's composed term is the turn of its part. -/
theorem res3_parts : res_main_v110 m c = truncf .bf16 (mulf (rope
      (extractStridedSlice S2x8192x512 ![0, 0, 1536] (projected m c) slices_S2x8192x3072_S2x8192x512_0_0_1536)) eighth)
      bitsLt_bf16_f32 := rfl

/-- The fourth result. -/
theorem res3_eq : res_main_v110 m c
    = TURNED_SCALED (m ((c.tc : Thread nD τ).loc main_arg0)) (m ((c.tc : Thread nD τ).loc main_arg1))
        (m ((c.tc : Thread nD τ).loc main_arg2)) := by
  rw [res3_parts]
  funext i
  obtain ⟨b, s, n, rfl⟩ : ∃ (b : Fin 2) (s : Fin 8192) (n : Fin 512), i = ix3 b s n := ⟨i 0, i 1, i 2, eq_ix3 i⟩
  have h : ∀ p : FVec Ideal S2x8192x512 .f32, truncf (ψ := .bf16) (mulf p eighth) bitsLt_bf16_f32 (ix3 b s n)
      = p (ix3 b s n) * Ideal.ofBits FTy.f32 0x3E000000#32 := by
    intro p
    pointwise [eighth]
  rw [h, rope_at]
  simp only [fun n => (cut_at (projected m c) b s n).2.2.2.1, projected_at m c 1536 (by omega)]
  rfl

/-- The fifth result's composed term is the turn of its part. -/
theorem res4_parts : res_main_v111 m c = truncf .bf16 (rope
      (extractStridedSlice S2x8192x512 ![0, 0, 2048] (projected m c) slices_S2x8192x3072_S2x8192x512_0_0_2048))
      bitsLt_bf16_f32 := rfl

/-- The fifth result. -/
theorem res4_eq : res_main_v111 m c
    = TURNED (m ((c.tc : Thread nD τ).loc main_arg0)) (m ((c.tc : Thread nD τ).loc main_arg1))
        (m ((c.tc : Thread nD τ).loc main_arg2)) := by
  rw [res4_parts]
  funext i
  obtain ⟨b, s, n, rfl⟩ : ∃ (b : Fin 2) (s : Fin 8192) (n : Fin 512), i = ix3 b s n := ⟨i 0, i 1, i 2, eq_ix3 i⟩
  have h : ∀ p : FVec Ideal S2x8192x512 .f32, truncf (ψ := .bf16) p bitsLt_bf16_f32 (ix3 b s n) = p (ix3 b s n) := by
    intro p
    pointwise []
  rw [h, rope_at]
  simp only [fun n => (cut_at (projected m c) b s n).2.2.2.2.1, projected_at m c 2048 (by omega)]
  rfl

/-- The sixth result. -/
theorem res5_eq : truncf (ψ := .bf16) (transpose S2x512x8192 [0, 2, 1]
      (extractStridedSlice S2x8192x512 ![0, 0, 2560] (projected m c) slices_S2x8192x3072_S2x8192x512_0_0_2560)
      transposes_S2x8192x512_S2x512x8192_0_2_1) bitsLt_bf16_f32
    = FLIPPED (m ((c.tc : Thread nD τ).loc main_arg0)) (m ((c.tc : Thread nD τ).loc main_arg1))
        (m ((c.tc : Thread nD τ).loc main_arg2)) := by
  funext i
  obtain ⟨b, n, s, rfl⟩ : ∃ (b : Fin 2) (n : Fin 512) (s : Fin 8192), i = ix3 b n s := ⟨i 0, i 1, i 2, eq_ix3 i⟩
  rw [(cut_at _ b s n).2.2.2.2.2, projected_at m c 2560 (by omega)]
  rfl

end

/-- The reference's run: every execution leaves the six arrays stated above and the arguments as they were. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v107) = SCALED (m ((c.tc : Thread nD τ).loc main_arg0)) (m ((c.tc : Thread nD τ).loc main_arg1))
          (m ((c.tc : Thread nD τ).loc main_arg2))
      ∧ r.2.mem ((c.tc : Thread nD τ).loc main_v108) = PLAIN 512 (by omega) (m ((c.tc : Thread nD τ).loc main_arg0)) (m ((c.tc : Thread nD τ).loc main_arg1))
          (m ((c.tc : Thread nD τ).loc main_arg2))
      ∧ r.2.mem ((c.tc : Thread nD τ).loc main_v109) = PLAIN 1024 (by omega) (m ((c.tc : Thread nD τ).loc main_arg0)) (m ((c.tc : Thread nD τ).loc main_arg1))
          (m ((c.tc : Thread nD τ).loc main_arg2))
      ∧ r.2.mem ((c.tc : Thread nD τ).loc main_v110) = TURNED_SCALED (m ((c.tc : Thread nD τ).loc main_arg0)) (m ((c.tc : Thread nD τ).loc main_arg1))
          (m ((c.tc : Thread nD τ).loc main_arg2))
      ∧ r.2.mem ((c.tc : Thread nD τ).loc main_v111) = TURNED (m ((c.tc : Thread nD τ).loc main_arg0)) (m ((c.tc : Thread nD τ).loc main_arg1))
          (m ((c.tc : Thread nD τ).loc main_arg2))
      ∧ r.2.mem ((c.tc : Thread nD τ).loc main_v112) = FLIPPED (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (run m ρ) fun r h c => ?_
  obtain ⟨h0, h1, h2, h3, h4, h5, h6⟩ := h c
  exact ⟨h0.trans (res0_eq m c), h1.trans (res1_eq m c), h2.trans (res2_eq m c), h3.trans (res3_eq m c),
    h4.trans (res4_eq m c), h5.trans (res5_eq m c), h6⟩

end Cert.InpRefIdeal.Value

end
-- ==== Proof.InpValue.lean ====
module

public import proofs.«01_k».proof.Proof.Gen.InpIdeal.Frame
public import proofs.«01_k».proof.Proof.InpRef
public import Idealize.ShloMosaic.Lib.Claim
public import Idealize.ShloMosaic.Lib.StableHlo.RunRead

@[expose] public section

/-!
The input-projection call: the six arrays the kernel writes are what the reference computes, at every extended-real input.
-/

set_option maxRecDepth 16384

noncomputable section

open Idealize.ShloMosaic Idealize.ShloMosaic.TcCoe Idealize.SL.Sem
open Idealize.ShloMosaic.Pipeline (Dat)
open Cert.InpRefIdeal.Value (entry part turnedRow)
open scoped BigOperators

namespace Cert.InpIdeal.Value

open Cert.InpIdeal Cert.InpIdeal.Gen

/-- A projected entry of the kernel's block. -/
theorem pay4_at (v0 v2 : Vec Ideal S1x1x1024 .f32) (v4 : Vec Ideal S1x512x1024 .f32) (v29 : Vec Ideal S1024x3072 .bf16)
    (r : Fin 512) (n : Fin 3072) :
    k0_pay4 v0 v2 v4 v29 (ix2 r n) = entry (fun k => v4 (ix3 0 r k)) (fun k => v2 (ix3 0 0 k)) (fun k => v0 (ix3 0 0 k))
      (fun k => v29 (ix2 k n)) := by
  pointwise [k0_pay4, entry, Rows.normed, Rows.mean]

variable (m : (ℓ : Loc nD τ sig) → Buf (Elt Ideal) ℓ)

/-- Every window's block index at every grid point, and the point's tile. -/
theorem idx : ∀ t : Fin cfg0.N, win0_0.index t = ![t.val / 16, t.val % 16, 0]
    ∧ win0_1.index t = ![t.val / 16, 0, 0]
    ∧ win0_2.index t = ![0, 0]
    ∧ win0_3.index t = ![0, 0]
    ∧ win0_4.index t = ![0, 0]
    ∧ win0_5.index t = ![t.val / 16, t.val % 16, 0]
    ∧ win0_6.index t = ![t.val / 16, t.val % 16, 0]
    ∧ win0_7.index t = ![t.val / 16, t.val % 16, 0]
    ∧ win0_8.index t = ![t.val / 16, t.val % 16, 0]
    ∧ win0_9.index t = ![t.val / 16, t.val % 16, 0]
    ∧ win0_10.index t = ![t.val / 16, 0, t.val % 16] :=
  (by decide +kernel : ∀ t : Fin grid0.N, _)

/-- The tile of a grid point. -/
theorem tile (t : Fin cfg0.N) : (grid0.coords t 1).val = t.val % 16 :=
  (by decide +kernel : ∀ t : Fin grid0.N, (grid0.coords t 1).val = t.val % 16) t

/-- There are 32 grid points. -/
theorem point_lt (t : Fin cfg0.N) : t.val < 32 := t.isLt

/-- The batch of a grid point. -/
def batch (t : Fin cfg0.N) : Fin 2 := ⟨t.val / 16, by have := point_lt t; omega⟩
/-- The token a row of a grid point's block holds. -/
def token (t : Fin cfg0.N) (r : Fin 512) : Fin 8192 := ⟨t.val % 16 * 512 + r.val, by omega⟩

/-- A block of tokens. -/
theorem blk0_at (c : Dev nD) (t : Fin cfg0.N) (r : Fin 512) (k : Fin 1024) :
    View.ld (iblk m c 0 t) r0_2 (ix3 0 r k) = m ((c : Thread nD τ).loc main_arg0) (ix3 (batch t) (token t r) k) := by
  unfold batch token
  blk_point [iblk, V, idx t]

/-- The shift of a batch. -/
theorem shift_at (c : Dev nD) (t : Fin cfg0.N) (k : Fin 1024) :
    View.ld (iblk m c 1 t) r0_0 (ix3 0 0 k)
      = m ((c : Thread nD τ).loc main_arg1) (ix3 (batch t) 0 ⟨k.val, by omega⟩) := by
  unfold batch
  blk_point [iblk, V, idx t]

/-- The scale of a batch. -/
theorem scale_at (c : Dev nD) (t : Fin cfg0.N) (k : Fin 1024) :
    View.ld (iblk m c 1 t) r0_1 (ix3 0 0 k)
      = m ((c : Thread nD τ).loc main_arg1) (ix3 (batch t) 0 ⟨1024 + k.val, by omega⟩) := by
  unfold batch
  blk_point [iblk, V, idx t]

/-- The weights without their leading axis. -/
def flat (w : FVec Ideal S1x1024x3072 .f32) : FVec Ideal S1024x3072 .bf16 :=
  truncf .bf16 (shapeCast S1024x3072 w shapeCasts_S1x1024x3072_S1024x3072) bitsLt_bf16_f32

/-- Such an array at an index. -/
theorem flat_at (w : FVec Ideal S1x1024x3072 .f32) (k : Fin 1024) (n : Fin 3072) :
    flat w (ix2 k n) = w (ix3 0 k n) := by
  pointwise [flat]

/-- The weights the kernel is called with: the argument flattened. -/
theorem entry2 (c : Dev nD) : V m c main_v16
    = flat (m ((c : Thread nD τ).loc main_arg2)) := by
  show StableHlo.after hostOps0 (fun b => m (c, b)) main_v16 = _
  after_reads_simp
  rfl

/-- The angles of the tables the kernel is called with. -/
def tableAngle : FVec Ideal S512x128 .f32 :=
  mulf (sitofp .f32 (iotaInDim S512x128 32 0))
    (Host.exp (mulf (sitofp .f32 (andi (iotaInDim S512x128 32 1) (broadcastInDim S512x128 ![] bcast_S_S512x128 (constantI S_ 32 31#32))))
      (broadcastInDim S512x128 ![] bcast_S_S512x128
        (Host.divf (Host.negf (Host.log (constant S_ .f32 0x461C4000#32))) (constant S_ .f32 0x42000000#32)))))

/-- The cosine table. -/
theorem entry3 (c : Dev nD) : V m c main_v13 = Host.cos tableAngle := by
  show StableHlo.after hostOps0 (fun b => m (c, b)) main_v13 = _
  after_reads_simp
  rfl

/-- The sine table. -/
theorem entry4 (c : Dev nD) : V m c main_v14 = Host.sin tableAngle := by
  show StableHlo.after hostOps0 (fun b => m (c, b)) main_v14 = _
  after_reads_simp
  rfl

/-- The angle of a row and a lane of the tables. -/
theorem tableAngle_at (r : Fin 512) (l : Fin 128) :
    tableAngle (ix2 r l) = ((Rope.angle r.val (l.val % 32) : ℝ) : EReal) := by
  have h : tableAngle (ix2 r l) = (FloatOps.sitofp FTy.f32 (BitVec.ofNat 32 r.val) : Ideal FTy.f32)
      * Ideal.exp ((FloatOps.sitofp FTy.f32 (IntOp.andi (BitVec.ofNat 32 l.val) 31#32) : Ideal FTy.f32)
        * Ideal.div (-(Ideal.log (Ideal.ofBits FTy.f32 0x461C4000#32))) (Ideal.ofBits FTy.f32 0x42000000#32)) := by
    pointwise [tableAngle]
  rw [h, Rope.exponent_host, Rope.rate_exp, Rope.convert_nat _ (by omega), ← EReal.coe_mul]
  rfl

/-- A load of a whole block reads the block. -/
theorem ld_weights (x : Vec Ideal S1024x3072 .bf16) (k : Fin 1024) (n : Fin 3072) :
    View.ld x r0_3 (ix2 k n) = x (ix2 k n) := by
  pointwise []
@[inherit_doc ld_weights]
theorem ld_table (x : Vec Ideal S512x128 .f32) (r : Fin 512) (l : Fin 128) : View.ld x r0_5 (ix2 r l) = x (ix2 r l) := by
  pointwise []

@[inherit_doc ld_weights]
theorem ld_weights_all (x : Vec Ideal S1024x3072 .bf16) : View.ld x r0_3 = x := by
  funext y
  obtain ⟨k, n, rfl⟩ : ∃ (k : Fin 1024) (n : Fin 3072), y = ix2 k n := ⟨y 0, y 1, eq_ix2 y⟩
  exact ld_weights x k n
@[inherit_doc ld_weights]
theorem ld_tokens_all (x : Vec Ideal S1x512x1024 .f32) : View.ld x r0_2 = x := by
  funext y
  obtain ⟨z, r, k, rfl⟩ : ∃ (z : Fin 1) (r : Fin 512) (k : Fin 1024), y = ix3 z r k := ⟨y 0, y 1, y 2, eq_ix3 y⟩
  obtain rfl : z = 0 := Subsingleton.elim _ _
  pointwise []

/-- The weights' block is the whole array. -/
theorem blk2_entry (c : Dev nD) (t : Fin cfg0.N) (k : Fin 1024) (n : Fin 3072) :
    iblk m c 2 t (ix2 k n) = V m c main_v16 (ix2 k n) := by
  blk_simp [iblk]
  blk_ext [idx t]

/-- The cosine table's block is the whole table. -/
theorem blk3_entry (c : Dev nD) (t : Fin cfg0.N) (r : Fin 512) (l : Fin 128) :
    iblk m c 3 t (ix2 r l) = V m c main_v13 (ix2 r l) := by
  blk_simp [iblk]
  blk_ext [idx t]

/-- The sine table's block is the whole table. -/
theorem blk4_entry (c : Dev nD) (t : Fin cfg0.N) (r : Fin 512) (l : Fin 128) :
    iblk m c 4 t (ix2 r l) = V m c main_v14 (ix2 r l) := by
  blk_simp [iblk]
  blk_ext [idx t]

/-- The weights the body loads. -/
theorem blk2_at (c : Dev nD) (t : Fin cfg0.N) (k : Fin 1024) (n : Fin 3072) :
    View.ld (iblk m c 2 t) r0_3 (ix2 k n) = m ((c : Thread nD τ).loc main_arg2) (ix3 0 k n) :=
  (ld_weights _ k n).trans ((blk2_entry m c t k n).trans ((congrFun (entry2 m c) _).trans (flat_at _ k n)))

/-- The cosines the body loads. -/
theorem blk3_at (c : Dev nD) (t : Fin cfg0.N) (r : Fin 512) (l : Fin 128) :
    View.ld (iblk m c 3 t) r0_5 (ix2 r l) = ((Real.cos (Rope.angle r.val (l.val % 32)) : ℝ) : EReal) :=
  (ld_table _ r l).trans ((blk3_entry m c t r l).trans ((congrFun (entry3 m c) _).trans
    (congrArg Ideal.cos (tableAngle_at r l))))

/-- The sines the body loads. -/
theorem blk4_at (c : Dev nD) (t : Fin cfg0.N) (r : Fin 512) (l : Fin 128) :
    View.ld (iblk m c 4 t) r0_5 (ix2 r l) = ((Real.sin (Rope.angle r.val (l.val % 32)) : ℝ) : EReal) :=
  (ld_table _ r l).trans ((blk4_entry m c t r l).trans ((congrFun (entry4 m c) _).trans
    (congrArg Ideal.sin (tableAngle_at r l))))

/-- The exponent of the rates that the kernel names. -/
theorem exponent : Named.named (F := Ideal) Cert.InpIdeal.κ "rope_rate" (φ := .f32) 0xBE935D8E#32
    = ((-(Real.log 10000 * (1 / 32)) : ℝ) : EReal) := IdealRules.named_const.ideal_named_scalar _ _ _ _ rfl

/-- The first token of a tile. -/
theorem tile_start : ∀ i : Fin 16, (Scalar.muli (BitVec.ofNat 32 i.val) 512#32).toInt = ((i.val * 512 : ℕ) : ℤ) := by
  decide +kernel

/-- The angle of a tile's first token. -/
theorem base_at (i : Fin 16) (l : Fin 128) :
    k0_pay9 (F := Ideal) (BitVec.ofNat 32 i.val) (ix2 0 l) = ((Rope.angle (i.val * 512) (l.val % 32) : ℝ) : EReal) := by
  have h : k0_pay9 (F := Ideal) (BitVec.ofNat 32 i.val) (ix2 0 l)
      = (((Scalar.muli (BitVec.ofNat 32 i.val) 512#32).toInt : ℝ) : EReal)
        * Ideal.exp ((FloatOps.sitofp FTy.f32 (IntOp.andi (BitVec.ofNat 32 l.val) 31#32) : Ideal FTy.f32)
          * Named.named (F := Ideal) Cert.InpIdeal.κ "rope_rate" (φ := .f32) 0xBE935D8E#32) := by
    pointwise [k0_pay9]
  rw [h, exponent, Rope.rate_exp, tile_start, ← EReal.coe_mul]
  unfold Rope.angle
  norm_cast

/-- The cosine of a token's angle. -/
theorem cos_at (i : Fin 16) (v62 v64 : Vec Ideal S512x128 .f32) (r : Fin 512) (l : Fin 128)
    (hc : v62 (ix2 r l) = ((Real.cos (Rope.angle r.val (l.val % 32)) : ℝ) : EReal))
    (hs : v64 (ix2 r l) = ((Real.sin (Rope.angle r.val (l.val % 32)) : ℝ) : EReal)) :
    k0_pay14 (BitVec.ofNat 32 i.val) v62 v64 (ix2 r l)
      = ((Real.cos (Rope.angle (i.val * 512 + r.val) (l.val % 32)) : ℝ) : EReal) := by
  have h : k0_pay14 (BitVec.ofNat 32 i.val) v62 v64 (ix2 r l)
      = Ideal.cos (k0_pay9 (F := Ideal) (BitVec.ofNat 32 i.val) (ix2 0 l)) * v62 (ix2 r l)
        - Ideal.sin (k0_pay9 (F := Ideal) (BitVec.ofNat 32 i.val) (ix2 0 l)) * v64 (ix2 r l) := by
    pointwise [k0_pay14, k0_pay10, k0_pay11, k0_pay12, k0_pay13]
  rw [h, base_at, hc, hs, ← Rope.cos_sum]
  rfl

/-- The sine of a token's angle. -/
theorem sin_at (i : Fin 16) (v62 v64 : Vec Ideal S512x128 .f32) (r : Fin 512) (l : Fin 128)
    (hc : v62 (ix2 r l) = ((Real.cos (Rope.angle r.val (l.val % 32)) : ℝ) : EReal))
    (hs : v64 (ix2 r l) = ((Real.sin (Rope.angle r.val (l.val % 32)) : ℝ) : EReal)) :
    k0_pay15 (BitVec.ofNat 32 i.val) v62 v64 (ix2 r l)
      = ((Real.sin (Rope.angle (i.val * 512 + r.val) (l.val % 32)) : ℝ) : EReal) := by
  have h : k0_pay15 (BitVec.ofNat 32 i.val) v62 v64 (ix2 r l)
      = Ideal.sin (k0_pay9 (F := Ideal) (BitVec.ofNat 32 i.val) (ix2 0 l)) * v62 (ix2 r l)
        + Ideal.cos (k0_pay9 (F := Ideal) (BitVec.ofNat 32 i.val) (ix2 0 l)) * v64 (ix2 r l) := by
    pointwise [k0_pay15, k0_pay10, k0_pay11, k0_pay12, k0_pay13]
  rw [h, base_at, hc, hs, ← Rope.sin_sum]
  rfl

/-- The columns of a row of the projected block from column `o`. -/
def columns (v : FVec Ideal S512x3072 .f32) (o : ℕ) (ho : o ≤ 2560) (r : Fin 512) (n : Fin 512) : EReal :=
  v (ix2 r ⟨o + n.val, by omega⟩)

/-- The four groups of 128 lanes of the turned and scaled part. -/
theorem groups_scaled (v31 : FVec Ideal S512x3072 .f32) (v70 v75 : FVec Ideal S512x128 .f32) (z : Fin 1) (r : Fin 512)
    (l : Fin 128) :
    k0_pay19 v31 v70 v75 k0_pay16 (ix3 z r l)
        = Rope.turned (columns v31 1536 (by omega) r) (v70 (ix2 r l)) (v75 (ix2 r l)) ⟨0 + l.val, by omega⟩
          * Ideal.ofBits FTy.f32 0x3E000000#32
    ∧ k0_pay22 (k0_pay21 v31 v70 v75 k0_pay16) (ix3 z r l)
        = Rope.turned (columns v31 1536 (by omega) r) (v70 (ix2 r l)) (v75 (ix2 r l)) ⟨128 + l.val, by omega⟩
          * Ideal.ofBits FTy.f32 0x3E000000#32
    ∧ k0_pay24 v31 v70 (k0_pay17 k0_pay16) (k0_pay18 v75 k0_pay16) (ix3 z r l)
        = Rope.turned (columns v31 1536 (by omega) r) (v70 (ix2 r l)) (v75 (ix2 r l)) ⟨256 + l.val, by omega⟩
          * Ideal.ofBits FTy.f32 0x3E000000#32
    ∧ k0_pay1 v70 (k0_pay17 k0_pay16) (k0_pay18 v75 k0_pay16) (k0_pay26 v31) 96#32 (ix3 z r l)
        = Rope.turned (columns v31 1536 (by omega) r) (v70 (ix2 r l)) (v75 (ix2 r l)) ⟨384 + l.val, by omega⟩
          * Ideal.ofBits FTy.f32 0x3E000000#32 := by
  refine ⟨?_, ?_, ?_, ?_⟩ <;> rw [← Rope.turn_eq _ _ _ _ (by decide) (by decide)] <;>
    pointwise [k0_pay19, k0_pay21, k0_pay22, k0_pay24, k0_pay1, k0_pay26, k0_pay17, k0_pay18, k0_pay16, columns] <;>
    simp only [← Nat.add_assoc, Nat.reduceAdd]

/-- The four groups of 128 lanes of the turned part. -/
theorem groups_plain (v31 : FVec Ideal S512x3072 .f32) (v70 v75 : FVec Ideal S512x128 .f32) (z : Fin 1) (r : Fin 512)
    (l : Fin 128) :
    k0_pay20 v31 v70 v75 k0_pay16 (ix3 z r l)
        = Rope.turned (columns v31 2048 (by omega) r) (v70 (ix2 r l)) (v75 (ix2 r l)) ⟨0 + l.val, by omega⟩
    ∧ k0_pay23 v31 v70 (k0_pay17 k0_pay16) (k0_pay18 v75 k0_pay16) (ix3 z r l)
        = Rope.turned (columns v31 2048 (by omega) r) (v70 (ix2 r l)) (v75 (ix2 r l)) ⟨128 + l.val, by omega⟩
    ∧ k0_pay25 v31 v70 (k0_pay17 k0_pay16) (k0_pay18 v75 k0_pay16) (ix3 z r l)
        = Rope.turned (columns v31 2048 (by omega) r) (v70 (ix2 r l)) (v75 (ix2 r l)) ⟨256 + l.val, by omega⟩
    ∧ k0_pay2 v31 v70 (k0_pay17 k0_pay16) (k0_pay18 v75 k0_pay16) (ix3 z r l)
        = Rope.turned (columns v31 2048 (by omega) r) (v70 (ix2 r l)) (v75 (ix2 r l)) ⟨384 + l.val, by omega⟩ := by
  refine ⟨?_, ?_, ?_, ?_⟩ <;> rw [← Rope.turn_eq _ _ _ _ (by decide) (by decide)] <;>
    pointwise [k0_pay20, k0_pay23, k0_pay25, k0_pay2, k0_pay17, k0_pay18, k0_pay16, columns] <;>
    simp only [← Nat.add_assoc, Nat.reduceAdd]

/-- A group's entry read at a column of the whole part. -/
theorem read_group (f : S1x512x128.Idx → EReal) (G : Fin 512 → Fin 128 → Fin 512 → EReal) (o : ℕ) (ho : o % 128 = 0)
    (hb : o + 128 ≤ 512) (hf : ∀ z r l, f (ix3 z r l) = G r l ⟨o + l.val, by omega⟩) (x : S1x512x128.Idx) (r n : Fin 512)
    (h1 : r.val = (x 1).val) (h2 : n.val = o + (x 2).val) : f x = G r ⟨n.val % 128, by omega⟩ n := by
  obtain ⟨z, r', l, rfl⟩ : ∃ (z : Fin 1) (r' : Fin 512) (l : Fin 128), x = ix3 z r' l := ⟨x 0, x 1, x 2, eq_ix3 x⟩
  change n.val = o + l.val at h2
  obtain rfl : r = r' := Fin.ext h1
  rw [hf, show (⟨n.val % 128, by omega⟩ : Fin 128) = l from Fin.ext (by change n.val % 128 = l.val; omega),
    show n = ⟨o + l.val, by omega⟩ from Fin.ext h2]

/-- The block of the turned and scaled part. -/
theorem block_scaled (v31 : FVec Ideal S512x3072 .f32) (v70 v75 : FVec Ideal S512x128 .f32) (z : Fin 1) (r : Fin 512)
    (n : Fin 512) :
    View.canon (Val := Elt Ideal) (e := .bf16)
      [⟨r0_9, k0_pay1 v70 (k0_pay17 k0_pay16) (k0_pay18 v75 k0_pay16) (k0_pay26 v31) 96#32⟩,
        ⟨r0_8, k0_pay24 v31 v70 (k0_pay17 k0_pay16) (k0_pay18 v75 k0_pay16)⟩,
        ⟨r0_7, k0_pay22 (k0_pay21 v31 v70 v75 k0_pay16)⟩, ⟨r0_6, k0_pay19 v31 v70 v75 k0_pay16⟩] (ix3 z r n)
    = Rope.turned (columns v31 1536 (by omega) r) (v70 (ix2 r ⟨n.val % 128, by omega⟩))
        (v75 (ix2 r ⟨n.val % 128, by omega⟩)) n * Ideal.ofBits FTy.f32 0x3E000000#32 := by
  have h := groups_scaled v31 v70 v75
  let G : Fin 512 → Fin 128 → Fin 512 → EReal := fun r l n =>
    Rope.turned (columns v31 1536 (by omega) r) (v70 (ix2 r l)) (v75 (ix2 r l)) n * Ideal.ofBits FTy.f32 0x3E000000#32
  canon_tiles x h'
  · exact read_group _ G 384 (by decide) (by decide) (fun z r l => (h z r l).2.2.2) x r n h'1 h'2
  · exact read_group _ G 256 (by decide) (by decide) (fun z r l => (h z r l).2.2.1) x r n h'1 h'2
  · exact read_group _ G 128 (by decide) (by decide) (fun z r l => (h z r l).2.1) x r n h'1 h'2
  · exact read_group _ G 0 (by decide) (by decide) (fun z r l => (h z r l).1) x r n h'1 (h'2.trans (Nat.zero_add _).symm)

/-- The block of the turned part. -/
theorem block_plain (v31 : FVec Ideal S512x3072 .f32) (v70 v75 : FVec Ideal S512x128 .f32) (z : Fin 1) (r : Fin 512)
    (n : Fin 512) :
    View.canon (Val := Elt Ideal) (e := .bf16)
      [⟨r0_9, k0_pay2 v31 v70 (k0_pay17 k0_pay16) (k0_pay18 v75 k0_pay16)⟩,
        ⟨r0_8, k0_pay25 v31 v70 (k0_pay17 k0_pay16) (k0_pay18 v75 k0_pay16)⟩,
        ⟨r0_7, k0_pay23 v31 v70 (k0_pay17 k0_pay16) (k0_pay18 v75 k0_pay16)⟩, ⟨r0_6, k0_pay20 v31 v70 v75 k0_pay16⟩]
      (ix3 z r n)
    = Rope.turned (columns v31 2048 (by omega) r) (v70 (ix2 r ⟨n.val % 128, by omega⟩))
        (v75 (ix2 r ⟨n.val % 128, by omega⟩)) n := by
  have h := groups_plain v31 v70 v75
  let G : Fin 512 → Fin 128 → Fin 512 → EReal := fun r l n =>
    Rope.turned (columns v31 2048 (by omega) r) (v70 (ix2 r l)) (v75 (ix2 r l)) n
  canon_tiles x h'
  · exact read_group _ G 384 (by decide) (by decide) (fun z r l => (h z r l).2.2.2) x r n h'1 h'2
  · exact read_group _ G 256 (by decide) (by decide) (fun z r l => (h z r l).2.2.1) x r n h'1 h'2
  · exact read_group _ G 128 (by decide) (by decide) (fun z r l => (h z r l).2.1) x r n h'1 h'2
  · exact read_group _ G 0 (by decide) (by decide) (fun z r l => (h z r l).1) x r n h'1 (h'2.trans (Nat.zero_add _).symm)

/-- The other four stores at an index. -/
theorem stores_at (v0 v2 : Vec Ideal S1x1x1024 .f32) (v4 : Vec Ideal S1x512x1024 .f32) (v29 : Vec Ideal S1024x3072 .bf16)
    (z : Fin 1) (r n : Fin 512) :
    k0_pay6 (k0_pay5 v0 v2 v4 v29) (ix3 z r n)
        = columns (k0_pay4 v0 v2 v4 v29) 0 (by omega) r n * Ideal.ofBits FTy.f32 0x3E000000#32
    ∧ k0_pay7 (k0_pay4 v0 v2 v4 v29) (ix3 z r n) = columns (k0_pay4 v0 v2 v4 v29) 512 (by omega) r n
    ∧ k0_pay8 (k0_pay4 v0 v2 v4 v29) (ix3 z r n) = columns (k0_pay4 v0 v2 v4 v29) 1024 (by omega) r n
    ∧ k0_pay3 (k0_pay4 v0 v2 v4 v29) (ix3 z n r) = columns (k0_pay4 v0 v2 v4 v29) 2560 (by omega) r n := by
  generalize hv : k0_pay4 v0 v2 v4 v29 = v
  refine ⟨?_, ?_, ?_, ?_⟩
  · unfold k0_pay5
    rw [hv]
    pointwise [k0_pay6, columns]
  · pointwise [k0_pay7, columns]
  · pointwise [k0_pay8, columns]
  · pointwise [k0_pay3, columns]

/-- The part of the arguments' projection that a block holds. -/
theorem columns_at (c : Dev nD) (t : Fin cfg0.N) (o : ℕ) (ho : o ≤ 2560) (r n : Fin 512) :
    columns (k0_pay4 (View.ld (iblk m c 1 t) r0_0) (View.ld (iblk m c 1 t) r0_1) (View.ld (iblk m c 0 t) r0_2)
        (View.ld (iblk m c 2 t) r0_3)) o ho r n
      = part (m ((c : Thread nD τ).loc main_arg0)) (m ((c : Thread nD τ).loc main_arg1))
          (m ((c : Thread nD τ).loc main_arg2)) o ho (batch t) (token t r) n := by
  unfold columns part
  rw [pay4_at]
  simp only [blk0_at, shift_at, scale_at, blk2_at]

/-- The same with the whole blocks named. -/
theorem columns_whole (c : Dev nD) (t : Fin cfg0.N) (o : ℕ) (ho : o ≤ 2560) (r n : Fin 512) :
    columns (k0_pay4 (View.ld (iblk m c 1 t) r0_0) (View.ld (iblk m c 1 t) r0_1) (iblk m c 0 t) (iblk m c 2 t)) o ho r n
      = part (m ((c : Thread nD τ).loc main_arg0)) (m ((c : Thread nD τ).loc main_arg1))
          (m ((c : Thread nD τ).loc main_arg2)) o ho (batch t) (token t r) n := by
  rw [← columns_at, show View.ld (iblk m c 0 t) r0_2 = iblk m c 0 t from ld_tokens_all _,
    show View.ld (iblk m c 2 t) r0_3 = iblk m c 2 t from ld_weights_all _]

/-- Where a point's block of a result lies. -/
theorem emb_at (t : Fin cfg0.N) (r n : Fin 512) :
    ((cfg0.win 5).blk t).view.emb (ix3 0 r n) = (ix3 (batch t) (token t r) n : S2x8192x512.Idx)
    ∧ ((cfg0.win 6).blk t).view.emb (ix3 0 r n) = (ix3 (batch t) (token t r) n : S2x8192x512.Idx)
    ∧ ((cfg0.win 7).blk t).view.emb (ix3 0 r n) = (ix3 (batch t) (token t r) n : S2x8192x512.Idx)
    ∧ ((cfg0.win 8).blk t).view.emb (ix3 0 r n) = (ix3 (batch t) (token t r) n : S2x8192x512.Idx)
    ∧ ((cfg0.win 9).blk t).view.emb (ix3 0 r n) = (ix3 (batch t) (token t r) n : S2x8192x512.Idx)
    ∧ ((cfg0.win 10).blk t).view.emb (ix3 0 n r) = (ix3 (batch t) n (token t r) : S2x512x8192.Idx) := by
  unfold batch token
  refine ⟨?_, ?_, ?_, ?_, ?_, ?_⟩ <;> blk_ext [idx t]

/-- The turn of a block's row is the turn by the token's angles. -/
theorem turn_at (c : Dev nD) (t : Fin cfg0.N) (o : ℕ) (ho : o ≤ 2560) (r n : Fin 512) :
    Rope.turned (columns (k0_pay4 (View.ld (iblk m c 1 t) r0_0) (View.ld (iblk m c 1 t) r0_1)
          (View.ld (iblk m c 0 t) r0_2) (View.ld (iblk m c 2 t) r0_3)) o ho r)
        (k0_pay14 (BitVec.ofNat 32 (grid0.coords t 1).val) (View.ld (iblk m c 3 t) r0_5) (View.ld (iblk m c 4 t) r0_5)
          (ix2 r ⟨n.val % 128, by omega⟩))
        (k0_pay15 (BitVec.ofNat 32 (grid0.coords t 1).val) (View.ld (iblk m c 3 t) r0_5) (View.ld (iblk m c 4 t) r0_5)
          (ix2 r ⟨n.val % 128, by omega⟩)) n
      = turnedRow (part (m ((c : Thread nD τ).loc main_arg0)) (m ((c : Thread nD τ).loc main_arg1))
          (m ((c : Thread nD τ).loc main_arg2)) o ho (batch t) (token t r)) (token t r).val n := by
  rw [tile t, cos_at ⟨t.val % 16, by omega⟩ _ _ _ _ (blk3_at m c t r _) (blk4_at m c t r _),
    sin_at ⟨t.val % 16, by omega⟩ _ _ _ _ (blk3_at m c t r _) (blk4_at m c t r _),
    show n.val % 128 % 32 = n.val % 32 by omega]
  rw [show columns _ o ho r = _ from funext fun n => columns_at m c t o ho r n]
  rfl

/-- What the body stores in the first result's block is the reference's first result there. -/
theorem point0 (c : Dev nD) (t : Fin cfg0.N) (y : S1x512x512.Idx) :
    k0_pay6 (k0_pay5 (View.ld (iblk m c 1 t) r0_0) (View.ld (iblk m c 1 t) r0_1)
        (iblk m c 0 t) (iblk m c 2 t)) y
      = Cert.InpRefIdeal.Value.SCALED (m ((c : Thread nD τ).loc main_arg0)) (m ((c : Thread nD τ).loc main_arg1))
          (m ((c : Thread nD τ).loc main_arg2)) (((cfg0.win 5).blk t).view.emb y) := by
  obtain ⟨z, r, n, rfl⟩ : ∃ (z : Fin 1) (r n : Fin 512), y = ix3 z r n := ⟨y 0, y 1, y 2, eq_ix3 y⟩
  obtain rfl : z = 0 := Subsingleton.elim _ _
  rw [(emb_at t r n).1]
  rw [(stores_at _ _ _ _ 0 r n).1, columns_whole]
  rfl

/-- What the body stores in the second result's block is the reference's second result there. -/
theorem point1 (c : Dev nD) (t : Fin cfg0.N) (y : S1x512x512.Idx) :
    k0_pay7 (k0_pay4 (View.ld (iblk m c 1 t) r0_0) (View.ld (iblk m c 1 t) r0_1) (iblk m c 0 t)
        (iblk m c 2 t)) y
      = Cert.InpRefIdeal.Value.PLAIN 512 (by omega) (m ((c : Thread nD τ).loc main_arg0)) (m ((c : Thread nD τ).loc main_arg1))
          (m ((c : Thread nD τ).loc main_arg2)) (((cfg0.win 6).blk t).view.emb y) := by
  obtain ⟨z, r, n, rfl⟩ : ∃ (z : Fin 1) (r n : Fin 512), y = ix3 z r n := ⟨y 0, y 1, y 2, eq_ix3 y⟩
  obtain rfl : z = 0 := Subsingleton.elim _ _
  rw [(emb_at t r n).2.1]
  rw [(stores_at _ _ _ _ 0 r n).2.1, columns_whole]
  rfl

/-- What the body stores in the third result's block is the reference's third result there. -/
theorem point2 (c : Dev nD) (t : Fin cfg0.N) (y : S1x512x512.Idx) :
    k0_pay8 (k0_pay4 (View.ld (iblk m c 1 t) r0_0) (View.ld (iblk m c 1 t) r0_1) (iblk m c 0 t)
        (iblk m c 2 t)) y
      = Cert.InpRefIdeal.Value.PLAIN 1024 (by omega) (m ((c : Thread nD τ).loc main_arg0)) (m ((c : Thread nD τ).loc main_arg1))
          (m ((c : Thread nD τ).loc main_arg2)) (((cfg0.win 7).blk t).view.emb y) := by
  obtain ⟨z, r, n, rfl⟩ : ∃ (z : Fin 1) (r n : Fin 512), y = ix3 z r n := ⟨y 0, y 1, y 2, eq_ix3 y⟩
  obtain rfl : z = 0 := Subsingleton.elim _ _
  rw [(emb_at t r n).2.2.1]
  rw [(stores_at _ _ _ _ 0 r n).2.2.1, columns_whole]
  rfl

/-- What the body stores in the fourth result's block is the reference's fourth result there. -/
theorem point3 (c : Dev nD) (t : Fin cfg0.N) (y : S1x512x512.Idx) :
    out0_8 (grid0.coords t) (iblk m c 0 t) (iblk m c 1 t) (iblk m c 2 t) (iblk m c 3 t) (iblk m c 4 t) y
      = Cert.InpRefIdeal.Value.TURNED_SCALED (m ((c : Thread nD τ).loc main_arg0)) (m ((c : Thread nD τ).loc main_arg1))
          (m ((c : Thread nD τ).loc main_arg2)) (((cfg0.win 8).blk t).view.emb y) := by
  obtain ⟨z, r, n, rfl⟩ : ∃ (z : Fin 1) (r n : Fin 512), y = ix3 z r n := ⟨y 0, y 1, y 2, eq_ix3 y⟩
  obtain rfl : z = 0 := Subsingleton.elim _ _
  rw [(emb_at t r n).2.2.2.1]
  unfold_out out0_8
  refine (block_scaled _ _ _ 0 r n).trans ?_
  exact congrArg (· * Ideal.ofBits FTy.f32 0x3E000000#32) (turn_at m c t 1536 (by omega) r n)

/-- What the body stores in the fifth result's block is the reference's fifth result there. -/
theorem point4 (c : Dev nD) (t : Fin cfg0.N) (y : S1x512x512.Idx) :
    out0_9 (grid0.coords t) (iblk m c 0 t) (iblk m c 1 t) (iblk m c 2 t) (iblk m c 3 t) (iblk m c 4 t) y
      = Cert.InpRefIdeal.Value.TURNED (m ((c : Thread nD τ).loc main_arg0)) (m ((c : Thread nD τ).loc main_arg1))
          (m ((c : Thread nD τ).loc main_arg2)) (((cfg0.win 9).blk t).view.emb y) := by
  obtain ⟨z, r, n, rfl⟩ : ∃ (z : Fin 1) (r n : Fin 512), y = ix3 z r n := ⟨y 0, y 1, y 2, eq_ix3 y⟩
  obtain rfl : z = 0 := Subsingleton.elim _ _
  rw [(emb_at t r n).2.2.2.2.1]
  unfold_out out0_9
  refine (block_plain _ _ _ 0 r n).trans ?_
  exact turn_at m c t 2048 (by omega) r n

/-- What the body stores in the sixth result's block is the reference's sixth result there. -/
theorem point5 (c : Dev nD) (t : Fin cfg0.N) (y : S1x512x512.Idx) :
    k0_pay3 (k0_pay4 (View.ld (iblk m c 1 t) r0_0) (View.ld (iblk m c 1 t) r0_1) (iblk m c 0 t)
        (iblk m c 2 t)) y
      = Cert.InpRefIdeal.Value.FLIPPED (m ((c : Thread nD τ).loc main_arg0)) (m ((c : Thread nD τ).loc main_arg1))
          (m ((c : Thread nD τ).loc main_arg2)) (((cfg0.win 10).blk t).view.emb y) := by
  obtain ⟨z, n, r, rfl⟩ : ∃ (z : Fin 1) (n r : Fin 512), y = ix3 z n r := ⟨y 0, y 1, y 2, eq_ix3 y⟩
  obtain rfl : z = 0 := Subsingleton.elim _ _
  rw [(emb_at t r n).2.2.2.2.2]
  rw [(stores_at _ _ _ _ 0 r n).2.2.2, columns_whole]
  rfl

/-- The first array the kernel leaves is the reference's first result. -/
theorem final0 (c : Dev nD) : (dats m 0 c).arrAt 5 (cfgs 0).N
    = Cert.InpRefIdeal.Value.SCALED (m ((c : Thread nD τ).loc main_arg0)) (m ((c : Thread nD τ).loc main_arg1))
          (m ((c : Thread nD τ).loc main_arg2)) := by
  refine (dats m 0 c).arrAt_eq_of_covers 5 _ (by decide +kernel) fun t _ y => ?_
  blk_simp
  rw [after0_5]
  unfold_out out0_5
  frame_out
  exact point0 m c t y

/-- The second array the kernel leaves is the reference's second result. -/
theorem final1 (c : Dev nD) : (dats m 0 c).arrAt 6 (cfgs 0).N
    = Cert.InpRefIdeal.Value.PLAIN 512 (by omega) (m ((c : Thread nD τ).loc main_arg0)) (m ((c : Thread nD τ).loc main_arg1))
          (m ((c : Thread nD τ).loc main_arg2)) := by
  refine (dats m 0 c).arrAt_eq_of_covers 6 _ (by decide +kernel) fun t _ y => ?_
  blk_simp
  rw [after0_6]
  unfold_out out0_6
  frame_out
  exact point1 m c t y

/-- The third array the kernel leaves is the reference's third result. -/
theorem final2 (c : Dev nD) : (dats m 0 c).arrAt 7 (cfgs 0).N
    = Cert.InpRefIdeal.Value.PLAIN 1024 (by omega) (m ((c : Thread nD τ).loc main_arg0)) (m ((c : Thread nD τ).loc main_arg1))
          (m ((c : Thread nD τ).loc main_arg2)) := by
  refine (dats m 0 c).arrAt_eq_of_covers 7 _ (by decide +kernel) fun t _ y => ?_
  blk_simp
  rw [after0_7]
  unfold_out out0_7
  frame_out
  exact point2 m c t y

/-- The fourth array the kernel leaves is the reference's fourth result. -/
theorem final3 (c : Dev nD) : (dats m 0 c).arrAt 8 (cfgs 0).N
    = Cert.InpRefIdeal.Value.TURNED_SCALED (m ((c : Thread nD τ).loc main_arg0)) (m ((c : Thread nD τ).loc main_arg1))
          (m ((c : Thread nD τ).loc main_arg2)) := by
  refine (dats m 0 c).arrAt_eq_of_covers 8 _ (by decide +kernel) fun t _ y => ?_
  blk_simp
  rw [after0_8]
  exact point3 m c t y

/-- The fifth array the kernel leaves is the reference's fifth result. -/
theorem final4 (c : Dev nD) : (dats m 0 c).arrAt 9 (cfgs 0).N
    = Cert.InpRefIdeal.Value.TURNED (m ((c : Thread nD τ).loc main_arg0)) (m ((c : Thread nD τ).loc main_arg1))
          (m ((c : Thread nD τ).loc main_arg2)) := by
  refine (dats m 0 c).arrAt_eq_of_covers 9 _ (by decide +kernel) fun t _ y => ?_
  blk_simp
  rw [after0_9]
  exact point4 m c t y

/-- The sixth array the kernel leaves is the reference's sixth result. -/
theorem final5 (c : Dev nD) : (dats m 0 c).arrAt 10 (cfgs 0).N
    = Cert.InpRefIdeal.Value.FLIPPED (m ((c : Thread nD τ).loc main_arg0)) (m ((c : Thread nD τ).loc main_arg1))
          (m ((c : Thread nD τ).loc main_arg2)) := by
  refine (dats m 0 c).arrAt_eq_of_covers 10 _ (by decide +kernel) fun t _ y => ?_
  blk_simp
  rw [after0_10]
  unfold_out out0_10
  frame_out
  exact point5 m c t y

end Cert.InpIdeal.Value

end
-- ==== Proof.FfnValue.lean ====
module

public import proofs.«01_k».proof.Proof.Gen.FfnIdeal.Frame
public import proofs.«01_k».proof.Proof.FfnRef

@[expose] public section

/-!
The feed-forward call: what the kernel writes is what the reference computes, at every extended-real input.
-/

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen

/-- The kernel's residual sum at a row and a column. -/
theorem pay2_at (v0 : Vec Ideal S1x512x1024 .bf16) (v2 : Vec Ideal S1024x2816 .bf16) (v5 : Vec Ideal S1024x2816 .bf16)
    (v16 : Vec Ideal S2816x1024 .bf16) (v19 : Vec Ideal S1x1x1024 .f32) (v21 : Vec Ideal S1x512x1024 .f32)
    (r : Fin 512) (n : Fin 1024) :
    k0_pay2 v0 v2 v5 v16 v19 v21 (ix2 r n)
      = Rows.ffn (fun k => v0 (ix3 0 r k)) (fun k f => v2 (ix2 k f)) (fun k f => v5 (ix2 k f)) (fun f => v16 (ix2 f n))
          (v19 (ix3 0 0 n)) (v21 (ix3 0 r n)) := by
  pointwise [k0_pay2, Rows.ffn]
  simp only [Rows.silu_eq]

/-- The kernel's stored entry: the normalized residual row, scaled and shifted. -/
theorem pay1_at (v0 : Vec Ideal S1x512x1024 .bf16) (v2 : Vec Ideal S1024x2816 .bf16) (v5 : Vec Ideal S1024x2816 .bf16)
    (v16 : Vec Ideal S2816x1024 .bf16) (v19 : Vec Ideal S1x1x1024 .f32) (v21 : Vec Ideal S1x512x1024 .f32)
    (g b : Vec Ideal S1x1024 .f32) (z : Fin 1) (r : Fin 512) (n : Fin 1024) :
    k0_pay1 (k0_pay2 v0 v2 v5 v16 v19 v21) (k0_pay3 v0 v2 v5 v16 v19 v21) g b (ix3 z r n)
      = Rows.normed (fun n => Rows.ffn (fun k => v0 (ix3 0 r k)) (fun k f => v2 (ix2 k f)) (fun k f => v5 (ix2 k f))
          (fun f => v16 (ix2 f n)) (v19 (ix3 0 0 n)) (v21 (ix3 0 r n))) n * g (ix2 0 n) + b (ix2 0 n) := by
  have h1 : ∀ (u : FVec Ideal S512x1024 .f32) (mu : FVec Ideal S512x1 .f32),
      mu (ix2 r 0) = Rows.mean (fun x => u (ix2 r x)) →
      k0_pay1 u mu g b (ix3 z r n) = Rows.normed (fun n => u (ix2 r n)) n * g (ix2 0 n) + b (ix2 0 n) := by
    intro u mu hmu
    pointwise [k0_pay1, Rows.normed]
    rw [hmu]
  rw [h1 _ _ (by pointwise [k0_pay3, Rows.mean])]
  simp only [pay2_at]

variable (m : (ℓ : Loc nD τ sig) → Buf (Elt Ideal) ℓ)

/-- Every window's block index at every grid point. -/
theorem idx : ∀ t : Fin cfg0.N, win0_0.index t = ![t.val / 16, t.val % 16, 0]
    ∧ win0_1.index t = ![t.val / 16, t.val % 16, 0]
    ∧ win0_2.index t = ![0, 0]
    ∧ win0_3.index t = ![0, 0]
    ∧ win0_4.index t = ![0, 0]
    ∧ win0_5.index t = ![t.val / 16, 0, 0]
    ∧ win0_6.index t = ![0, 0]
    ∧ win0_7.index t = ![0, 0]
    ∧ win0_8.index t = ![t.val / 16, t.val % 16, 0] :=
  (by decide +kernel : ∀ t : Fin grid0.N, _)

/-- What the body stores at block index `y` of point `t` is the reference at the array index `y` sits at. -/
theorem point (c : Dev nD) (t : Fin cfg0.N) (y) :
    k0_pay1 (k0_pay2 (iblk m c 0 t) (iblk m c 2 t) (iblk m c 3 t) (iblk m c 4 t) (View.ld (iblk m c 5 t) r0_3)
        (iblk m c 1 t)) (k0_pay3 (iblk m c 0 t) (iblk m c 2 t) (iblk m c 3 t) (iblk m c 4 t)
        (View.ld (iblk m c 5 t) r0_3) (iblk m c 1 t)) (iblk m c 6 t) (iblk m c 7 t) y
      = Cert.FfnRefIdeal.Value.OUT (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (m ((c : Thread nD τ).loc main_arg7)) (((cfg0.win
        8).blk t).view.emb y) := by
  idx_vars y
  rw [pay1_at]
  pointwise [Cert.FfnRefIdeal.Value.OUT]
  blk_point [iblk, V, idx t]

/-- The array the feed-forward kernel leaves is the reference's function of its arguments. -/
theorem final (c : Dev nD) : (dats m 0 c).arrAt 8 (cfgs 0).N
      = Cert.FfnRefIdeal.Value.OUT (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  frame_out
  exact point m c t y

end Cert.FfnIdeal.Value

end
-- ==== Proof.OutRef.lean ====
module

public import proofs.«01_k».proof.Proof.Gen.OutRefIdeal.Run
public import proofs.«01_k».proof.Proof.FfnRef

@[expose] public section

/-!
The output-projection reference, entry by entry, over the parts of the normalization stated for the feed-forward reference.
-/

set_option maxRecDepth 16384

noncomputable section

open Idealize.ShloMosaic Idealize.ShloMosaic.TcCoe Idealize.SL.Sem
open scoped BigOperators

namespace Cert.OutRefIdeal.Value

open Cert.OutRefIdeal Cert.OutRefIdeal.Gen

/-- The two attentions' outputs side by side, projected. -/
def mix (a b : FVec Ideal S2x8192x512 .bf16) (w : FVec Ideal S1x1024x1024 .f32) : FVec Ideal S2x8192x1024 .f32 :=
  Host.dotGeneral dot_S2x8192x1024_S1024x1024_S2x8192x1024_2_0_01_1_n_n none
    (concatenate S2x8192x1024 2 [⟨S2x8192x512, (extf .f32 a bitsLt_bf16_f32)⟩, ⟨S2x8192x512, (extf .f32 b bitsLt_bf16_f32)⟩]
      concatenates_S2x8192x512_S2x8192x512_S2x8192x1024_d2) (shapeCast _ w shapeCasts_S1x1024x1024_S1024x1024)

/-- The residual sum. -/
def residual (x : FVec Ideal S2x8192x1024 .f32) (mod3 : FVec Ideal S2x1x6144 .f32) (y : FVec Ideal S2x8192x1024 .f32) :
    FVec Ideal S2x8192x1024 .f32 :=
  addf (mulf (broadcastInDim S2x8192x1024 ![] bcast_S_S2x8192x1024 (constant S_ .f32 0x3F9837F0#32)) x)
    (mulf (broadcastInDim S2x8192x1024 ![0, 1, 2] bcast_S2x1x1024_S2x8192x1024_0_1_2
      (addf (broadcastInDim S2x1x1024 ![] bcast_S_S2x1x1024 (constant S_ .f32 0x3F800000#32))
        (extractStridedSlice S2x1x1024 ![0, 0, 2048] mod3 slices_S2x1x6144_S2x1x1024_0_0_2048))) y)

/-- The second result from the normalized first: scale, shift, and the change of format. -/
def modulated (y : FVec Ideal S2x8192x1024 .f32) (mod3 : FVec Ideal S2x1x6144 .f32) : FVec Ideal S2x8192x1024 .bf16 :=
  truncf .bf16 (addf (mulf y (broadcastInDim S2x8192x1024 ![0, 1, 2] bcast_S2x1x1024_S2x8192x1024_0_1_2
      (addf (broadcastInDim S2x1x1024 ![] bcast_S_S2x1x1024 (constant S_ .f32 0x3F800000#32))
        (extractStridedSlice S2x1x1024 ![0, 0, 4096] mod3 slices_S2x1x6144_S2x1x1024_0_0_4096))))
    (broadcastInDim S2x8192x1024 ![0, 1, 2] bcast_S2x1x1024_S2x8192x1024_0_1_2
      (extractStridedSlice S2x1x1024 ![0, 0, 3072] mod3 slices_S2x1x6144_S2x1x1024_0_0_3072))) bitsLt_bf16_f32

/-- The projection at an index: the sum over the first attention's columns plus the sum over the second's. -/
theorem mix_at (a b : FVec Ideal S2x8192x512 .bf16) (w : FVec Ideal S1x1024x1024 .f32) (i : Fin 2) (s : Fin 8192)
    (n : Fin 1024) :
    mix a b w (ix3 i s n) = (∑ k : Fin 512, a (ix3 i s k) * w (ix3 0 ⟨k.val, by omega⟩ n))
      + ∑ k : Fin 512, b (ix3 i s k) * w (ix3 0 ⟨512 + k.val, by omega⟩ n) := by
  have h : mix a b w (ix3 i s n) = ∑ k : Fin (512 + 512),
      (if hk : k.val < 512 then a (ix3 i s ⟨k.val, hk⟩) else b (ix3 i s ⟨k.val - 512, by omega⟩))
        * w (ix3 0 k n) := by
    pointwise [mix]
  rw [h, Fin.sum_univ_add]
  congr 1

/-- The residual sum at an index. -/
theorem residual_at (x : FVec Ideal S2x8192x1024 .f32) (mod3 : FVec Ideal S2x1x6144 .f32)
    (y : FVec Ideal S2x8192x1024 .f32) (b : Fin 2) (s : Fin 8192) (n : Fin 1024) :
    residual x mod3 y (ix3 b s n) = Ideal.ofBits FTy.f32 0x3F9837F0#32 * x (ix3 b s n)
      + (1 + mod3 (ix3 b 0 ⟨2048 + n.val, by omega⟩)) * y (ix3 b s n) := by
  pointwise [residual]

/-- The second result at an index. -/
theorem modulated_at (y : FVec Ideal S2x8192x1024 .f32) (mod3 : FVec Ideal S2x1x6144 .f32) (b : Fin 2) (s : Fin 8192)
    (n : Fin 1024) :
    modulated y mod3 (ix3 b s n) = y (ix3 b s n) * (1 + mod3 (ix3 b 0 ⟨4096 + n.val, by omega⟩))
      + mod3 (ix3 b 0 ⟨3072 + n.val, by omega⟩) := by
  pointwise [modulated]

/-- The first result at batch `i 0`, token `i 1`, column `i 2`. -/
def OUT0 (a b : FVec Ideal S2x8192x512 .bf16) (w : FVec Ideal S1x1024x1024 .f32) (x : FVec Ideal S2x8192x1024 .f32)
    (mod3 : FVec Ideal S2x1x6144 .f32) (g d : FVec Ideal S1x1024 .f32) : FVec Ideal S2x8192x1024 .f32 := fun i =>
  Rows.normed (fun n => Rows.out (fun k => a (ix3 (i 0) (i 1) k)) (fun k => b (ix3 (i 0) (i 1) k))
      (fun k => w (ix3 0 ⟨k.val, by omega⟩ n)) (fun k => w (ix3 0 ⟨512 + k.val, by omega⟩ n))
      (mod3 (ix3 (i 0) 0 ⟨2048 + n.val, by omega⟩)) (x (ix3 (i 0) (i 1) n))) (i 2)
    * g (ix2 0 (i 2)) + d (ix2 0 (i 2))

/-- The second result: the first normalized again, scaled and shifted. -/
def OUT1 (a b : FVec Ideal S2x8192x512 .bf16) (w : FVec Ideal S1x1024x1024 .f32) (x : FVec Ideal S2x8192x1024 .f32)
    (mod3 : FVec Ideal S2x1x6144 .f32) (g d : FVec Ideal S1x1024 .f32) : FVec Ideal S2x8192x1024 .bf16 := fun i =>
  Rows.normed (fun n => OUT0 a b w x mod3 g d (ix3 (i 0) (i 1) n)) (i 2)
    * (1 + mod3 (ix3 (i 0) 0 ⟨4096 + (i 2).val, by have := (i 2).isLt; change (i 2).val < 1024 at this; omega⟩))
    + mod3 (ix3 (i 0) 0 ⟨3072 + (i 2).val, by have := (i 2).isLt; change (i 2).val < 1024 at this; omega⟩)

/-- The first chain at an index. -/
theorem chain0_at (a b : FVec Ideal S2x8192x512 .bf16) (w : FVec Ideal S1x1024x1024 .f32)
    (x : FVec Ideal S2x8192x1024 .f32) (mod3 : FVec Ideal S2x1x6144 .f32) (g d : FVec Ideal S1x1024 .f32)
    (i : Fin 2) (s : Fin 8192) (n : Fin 1024) :
    FfnRefIdeal.Value.affine (FfnRefIdeal.Value.norm (residual x mod3 (mix a b w))) g d (ix3 i s n)
      = OUT0 a b w x mod3 g d (ix3 i s n) := by
  rw [FfnRefIdeal.Value.affine_at, FfnRefIdeal.Value.norm_at]
  simp only [residual_at, mix_at]
  rfl

/-- The second chain at an index. -/
theorem chain1_at (a b : FVec Ideal S2x8192x512 .bf16) (w : FVec Ideal S1x1024x1024 .f32)
    (x : FVec Ideal S2x8192x1024 .f32) (mod3 : FVec Ideal S2x1x6144 .f32) (g d : FVec Ideal S1x1024 .f32)
    (i : Fin 2) (s : Fin 8192) (n : Fin 1024) :
    modulated (FfnRefIdeal.Value.norm
        (FfnRefIdeal.Value.affine (FfnRefIdeal.Value.norm (residual x mod3 (mix a b w))) g d)) mod3 (ix3 i s n)
      = OUT1 a b w x mod3 g d (ix3 i s n) := by
  rw [modulated_at, FfnRefIdeal.Value.norm_at]
  simp only [chain0_at]
  rfl

section
variable (m : (ℓ : Loc nD τ sig) → Buf (Elt Ideal) ℓ) (c : Dev nD)

/-- The first result's composed term is the first chain. -/
theorem res0_parts : res_main_v43 m c
    = FfnRefIdeal.Value.affine (FfnRefIdeal.Value.norm (residual (m ((c.tc : Thread nD τ).loc main_arg3))
        (m ((c.tc : Thread nD τ).loc main_arg4)) (mix (m ((c.tc : Thread nD τ).loc main_arg0))
          (m ((c.tc : Thread nD τ).loc main_arg1)) (m ((c.tc : Thread nD τ).loc main_arg2)))))
        (m ((c.tc : Thread nD τ).loc main_arg5)) (m ((c.tc : Thread nD τ).loc main_arg6)) := rfl

/-- The second result's composed term is the second chain. -/
theorem res1_parts : res_main_v68 m c
    = modulated (FfnRefIdeal.Value.norm (res_main_v43 m c)) (m ((c.tc : Thread nD τ).loc main_arg4)) := rfl

/-- The reference's first result is `OUT0` of its arguments. -/
theorem res0_eq : res_main_v43 m c
    = OUT0 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  rw [res0_parts]
  funext i
  obtain ⟨b, s, n, rfl⟩ : ∃ (b : Fin 2) (s : Fin 8192) (n : Fin 1024), i = ix3 b s n := ⟨i 0, i 1, i 2, eq_ix3 i⟩
  exact chain0_at _ _ _ _ _ _ _ b s n

/-- The reference's second result is `OUT1` of its arguments. -/
theorem res1_eq : res_main_v68 m c
    = OUT1 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  rw [res1_parts, res0_parts]
  funext i
  obtain ⟨b, s, n, rfl⟩ : ∃ (b : Fin 2) (s : Fin 8192) (n : Fin 1024), i = ix3 b s n := ⟨i 0, i 1, i 2, eq_ix3 i⟩
  exact chain1_at _ _ _ _ _ _ _ b s n

end

end Cert.OutRefIdeal.Value

end
-- ==== Proof.OutValue.lean ====
module

public import proofs.«01_k».proof.Proof.Gen.OutIdeal.Frame
public import proofs.«01_k».proof.Proof.OutRef

@[expose] public section

/-!
The output-projection call: both arrays the kernel writes are what the reference computes, at every extended-real input.
-/

set_option maxRecDepth 16384

noncomputable section

open Idealize.ShloMosaic Idealize.ShloMosaic.TcCoe Idealize.SL.Sem
open Idealize.ShloMosaic.Pipeline (Dat)
open scoped BigOperators

namespace Cert.OutIdeal.Value

open Cert.OutIdeal Cert.OutIdeal.Gen

/-- The kernel's residual sum at a row and a column. -/
theorem pay4_at (v0 : Vec Ideal S1x512x512 .bf16) (v2 : Vec Ideal S512x1024 .bf16) (v5 : Vec Ideal S1x512x512 .bf16)
    (v7 : Vec Ideal S512x1024 .bf16) (v11 : Vec Ideal S1x1x1024 .f32) (v17 : Vec Ideal S1x512x1024 .f32)
    (r : Fin 512) (n : Fin 1024) :
    k0_pay4 v0 v2 v5 v7 v11 v17 (ix2 r n)
      = Rows.out (fun k => v0 (ix3 0 r k)) (fun k => v5 (ix3 0 r k)) (fun k => v2 (ix2 k n)) (fun k => v7 (ix2 k n))
          (v11 (ix3 0 0 n)) (v17 (ix3 0 r n)) := by
  pointwise [k0_pay4, Rows.out]

/-- The kernel's normalized, scaled and shifted row, given the row's mean. -/
theorem pay6_at (u : FVec Ideal S512x1024 .f32) (mu : FVec Ideal S512x1 .f32) (g b : Vec Ideal S1x1024 .f32)
    (r : Fin 512) (hmu : mu (ix2 r 0) = Rows.mean (fun x => u (ix2 r x))) (n : Fin 1024) :
    k0_pay6 u mu g b (ix2 r n) = Rows.normed (fun n => u (ix2 r n)) n * g (ix2 0 n) + b (ix2 0 n) := by
  pointwise [k0_pay6, Rows.normed]
  rw [hmu]

/-- The mean the kernel takes of its residual sum. -/
theorem pay5_at (v0 : Vec Ideal S1x512x512 .bf16) (v2 : Vec Ideal S512x1024 .bf16) (v5 : Vec Ideal S1x512x512 .bf16)
    (v7 : Vec Ideal S512x1024 .bf16) (v11 : Vec Ideal S1x1x1024 .f32) (v17 : Vec Ideal S1x512x1024 .f32) (r : Fin 512) :
    k0_pay5 v0 v2 v5 v7 v11 v17 (ix2 r 0) = Rows.mean (fun x => k0_pay4 v0 v2 v5 v7 v11 v17 (ix2 r x)) := by
  pointwise [k0_pay5, Rows.mean]

/-- The first stored entry. -/
theorem first_at (v0 : Vec Ideal S1x512x512 .bf16) (v2 : Vec Ideal S512x1024 .bf16) (v5 : Vec Ideal S1x512x512 .bf16)
    (v7 : Vec Ideal S512x1024 .bf16) (v11 : Vec Ideal S1x1x1024 .f32) (v17 : Vec Ideal S1x512x1024 .f32)
    (g b : Vec Ideal S1x1024 .f32) (z : Fin 1) (r : Fin 512) (n : Fin 1024) :
    k0_pay7 (k0_pay4 v0 v2 v5 v7 v11 v17) (k0_pay5 v0 v2 v5 v7 v11 v17) g b (ix3 z r n)
      = Rows.normed (fun n => Rows.out (fun k => v0 (ix3 0 r k)) (fun k => v5 (ix3 0 r k)) (fun k => v2 (ix2 k n))
          (fun k => v7 (ix2 k n)) (v11 (ix3 0 0 n)) (v17 (ix3 0 r n))) n * g (ix2 0 n) + b (ix2 0 n) := by
  have h : ∀ (u : FVec Ideal S512x1024 .f32) (mu : FVec Ideal S512x1 .f32),
      k0_pay7 u mu g b (ix3 z r n) = k0_pay6 u mu g b (ix2 r n) := by
    intro u mu
    pointwise [k0_pay7]
  rw [h, pay6_at _ _ _ _ _ (pay5_at v0 v2 v5 v7 v11 v17 r)]
  simp only [pay4_at]

/-- The second stored entry: the first row normalized again, scaled and shifted. -/
theorem second_at (v0 : Vec Ideal S1x512x512 .bf16) (v2 : Vec Ideal S512x1024 .bf16) (v5 : Vec Ideal S1x512x512 .bf16)
    (v7 : Vec Ideal S512x1024 .bf16) (v11 v13 v15 : Vec Ideal S1x1x1024 .f32) (v17 : Vec Ideal S1x512x1024 .f32)
    (g b : Vec Ideal S1x1024 .f32) (z : Fin 1) (r : Fin 512) (n : Fin 1024) :
    k0_pay1 (k0_pay2 v13) (k0_pay8 (k0_pay3 v15) (k0_pay4 v0 v2 v5 v7 v11 v17) (k0_pay5 v0 v2 v5 v7 v11 v17) g b)
        (ix3 z r n)
      = Rows.normed (fun n => Rows.normed (fun n => Rows.out (fun k => v0 (ix3 0 r k)) (fun k => v5 (ix3 0 r k))
            (fun k => v2 (ix2 k n)) (fun k => v7 (ix2 k n)) (v11 (ix3 0 0 n)) (v17 (ix3 0 r n))) n * g (ix2 0 n)
          + b (ix2 0 n)) n * (1 + v15 (ix3 0 0 n)) + v13 (ix3 0 0 n) := by
  have h : ∀ (u : FVec Ideal S512x1024 .f32) (mu : FVec Ideal S512x1 .f32),
      k0_pay1 (k0_pay2 v13) (k0_pay8 (k0_pay3 v15) u mu g b) (ix3 z r n)
        = Rows.normed (fun n => k0_pay6 u mu g b (ix2 r n)) n * (1 + v15 (ix3 0 0 n)) + v13 (ix3 0 0 n) := by
    intro u mu
    pointwise [k0_pay1, k0_pay2, k0_pay8, k0_pay3, Rows.normed, Rows.mean]
  rw [h]
  simp only [fun n => pay6_at _ _ g b _ (pay5_at v0 v2 v5 v7 v11 v17 r) n, pay4_at]

variable (m : (ℓ : Loc nD τ sig) → Buf (Elt Ideal) ℓ)

/-- Every window's block index at every grid point. -/
theorem idx : ∀ t : Fin cfg0.N, win0_0.index t = ![t.val / 16, t.val % 16, 0]
    ∧ win0_1.index t = ![t.val / 16, t.val % 16, 0]
    ∧ win0_2.index t = ![0, 0]
    ∧ win0_3.index t = ![t.val / 16, t.val % 16, 0]
    ∧ win0_4.index t = ![t.val / 16, 0, 0]
    ∧ win0_5.index t = ![0, 0]
    ∧ win0_6.index t = ![0, 0]
    ∧ win0_7.index t = ![t.val / 16, t.val % 16, 0]
    ∧ win0_8.index t = ![t.val / 16, t.val % 16, 0] :=
  (by decide +kernel : ∀ t : Fin grid0.N, _)

/-- What the body stores in the first result's block is the reference's first result there. -/
theorem point0 (c : Dev nD) (t : Fin cfg0.N) (y) :
    k0_pay7 (k0_pay4 (iblk m c 0 t) (View.ld (iblk m c 2 t) r0_1) (iblk m c 1 t) (View.ld (iblk m c 2 t) r0_2)
          (View.ld (iblk m c 4 t) r0_3) (iblk m c 3 t))
        (k0_pay5 (iblk m c 0 t) (View.ld (iblk m c 2 t) r0_1) (iblk m c 1 t) (View.ld (iblk m c 2 t) r0_2)
          (View.ld (iblk m c 4 t) r0_3) (iblk m c 3 t)) (iblk m c 5 t) (iblk m c 6 t) y
      = Cert.OutRefIdeal.Value.OUT0 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
          (((cfg0.win 7).blk t).view.emb y) := by
  idx_vars y
  rw [first_at]
  pointwise [Cert.OutRefIdeal.Value.OUT0]
  blk_point [iblk, V, idx t]

/-- What the body stores in the second result's block is the reference's second result there. -/
theorem point1 (c : Dev nD) (t : Fin cfg0.N) (y) :
    k0_pay1 (k0_pay2 (View.ld (iblk m c 4 t) r0_4)) (k0_pay8 (k0_pay3 (View.ld (iblk m c 4 t) r0_5))
        (k0_pay4 (iblk m c 0 t) (View.ld (iblk m c 2 t) r0_1) (iblk m c 1 t) (View.ld (iblk m c 2 t) r0_2)
          (View.ld (iblk m c 4 t) r0_3) (iblk m c 3 t))
        (k0_pay5 (iblk m c 0 t) (View.ld (iblk m c 2 t) r0_1) (iblk m c 1 t) (View.ld (iblk m c 2 t) r0_2)
          (View.ld (iblk m c 4 t) r0_3) (iblk m c 3 t)) (iblk m c 5 t) (iblk m c 6 t)) y
      = Cert.OutRefIdeal.Value.OUT1 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
          (((cfg0.win 8).blk t).view.emb y) := by
  idx_vars y
  rw [second_at]
  pointwise [Cert.OutRefIdeal.Value.OUT1, Cert.OutRefIdeal.Value.OUT0]
  blk_point [iblk, V, idx t]

/-- The first array the kernel leaves is the reference's first result. -/
theorem final0 (c : Dev nD) : (dats m 0 c).arrAt 7 (cfgs 0).N
      = Cert.OutRefIdeal.Value.OUT0 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m 0 c).arrAt_eq_of_covers 7 _ (by decide +kernel) fun t _ y => ?_
  blk_simp
  rw [after0_7]
  unfold_out out0_7
  frame_out
  exact point0 m c t y

/-- The second array the kernel leaves is the reference's second result. -/
theorem final1 (c : Dev nD) : (dats m 0 c).arrAt 8 (cfgs 0).N
      = Cert.OutRefIdeal.Value.OUT1 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m 0 c).arrAt_eq_of_covers 8 _ (by decide +kernel) fun t _ y => ?_
  blk_simp
  rw [after0_8]
  unfold_out out0_8
  frame_out
  exact point1 m c t y

end Cert.OutIdeal.Value

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.Inp.Frame
public import proofs.«01_k».proof.Proof.Gen.InpIdeal.Frame
public import proofs.«01_k».proof.Proof.Gen.InpRefIdeal.Run
public import proofs.«01_k».proof.Proof.Gen.Ada.Frame
public import proofs.«01_k».proof.Proof.Gen.AdaIdeal.Frame
public import proofs.«01_k».proof.Proof.Gen.AdaRefIdeal.Run
public import proofs.«01_k».proof.Proof.Gen.Nbr.Frame
public import proofs.«01_k».proof.Proof.Gen.NbrIdeal.Frame
public import proofs.«01_k».proof.Proof.Gen.NbrRefIdeal.Run
public import proofs.«01_k».proof.Proof.NbrValue
public import proofs.«01_k».proof.Proof.AdaValue
public import proofs.«01_k».proof.Proof.InpValue
public import proofs.«01_k».proof.Proof.FfnValue
public import proofs.«01_k».proof.Proof.OutValue
public import proofs.«01_k».proof.Proof.AttnValue
public import Idealize.ShloMosaic.Lib.Claim
public import Idealize.ShloMosaic.Lib.Quiescent

@[expose] public section

/-!
The certificate's claim: the frame of every program, and for each of the six calls that the ideal kernel and the
reference of that call leave the same arrays.
-/

set_option maxRecDepth 16384

noncomputable section

namespace Cert.Proof

open Idealize.ShloMosaic Idealize.ShloMosaic.TcCoe Idealize.SL.Sem

/-- The shape facts of the attention call's precondition. -/
instance pre_facts : Cert.Pre_inputs_finite.Facts where
  bitsLt_bf16_f32 := by decide
  bcast_S_S2x8192x512 := by decide
  bcast_S_S2x512x8192 := by decide
  bcast_S_S1x64 := by decide

/-- The shape facts of the neighbourhood attention's precondition. -/
instance pre_na_facts : Cert.Pre_na_finite.Facts where
  bitsLt_bf16_f32 := by decide
  bcast_S_S2x8192x512 := by decide
  bcast_S_S15x4x64x128 := by decide

/-- The attention call's reference leaves its arguments as they were. -/
theorem frame_reference : Cert.quiescent_ReferenceIdeal := by
  intro m g _
  exact θ_run_mono (Cert.ReferenceIdeal.Value.run m g) fun r h => ⟨fun c => (h c).2, sem_eq_zero_of_no_sems (by decide) _⟩

/-- The feed-forward call's reference leaves its arguments as they were. -/
theorem frame_ffn_reference : Cert.quiescent_FfnRefIdeal := by
  intro m g _
  exact θ_run_mono (Cert.FfnRefIdeal.Value.run m g) fun r h => ⟨fun c => (h c).2, sem_eq_zero_of_no_sems (by decide) _⟩

/-- The output-projection call's reference leaves its arguments as they were. -/
theorem frame_out_reference : Cert.quiescent_OutRefIdeal := by
  intro m g _
  exact θ_run_mono (Cert.OutRefIdeal.Value.run m g) fun r h => ⟨fun c => (h c).2.2, sem_eq_zero_of_no_sems (by decide) _⟩

/-- The input-projection call's reference leaves its arguments as they were. -/
theorem frame_inp_reference : Cert.quiescent_InpRefIdeal := by
  intro m g _
  exact θ_run_mono (Cert.InpRefIdeal.Value.run m g)
    fun r h => ⟨fun c => (h c).2.2.2.2.2.2, sem_eq_zero_of_no_sems (by decide) _⟩

/-- The modulation call's reference leaves its arguments as they were. -/
theorem frame_ada_reference : Cert.quiescent_AdaRefIdeal := by
  intro m g _
  exact θ_run_mono (Cert.AdaRefIdeal.Value.run m g) fun r h => ⟨fun c => (h c).2, sem_eq_zero_of_no_sems (by decide) _⟩

/-- The neighbourhood attention's reference leaves its arguments as they were. -/
theorem frame_nbr_reference : Cert.quiescent_NbrRefIdeal := by
  intro m g _
  exact θ_run_mono (Cert.NbrRefIdeal.Value.run m g) fun r h => ⟨fun c => (h c).2, sem_eq_zero_of_no_sems (by decide) _⟩

/-- The same under the precondition. -/
theorem frame_nbr_reference_pre : Cert.quiescent_NbrRefIdeal_pre_na_finite :=
  fun m g _ => frame_nbr_reference m g trivial

/-- The attention call's reference leaves its arguments as they were under its precondition too. -/
theorem frame_reference_pre : Cert.quiescent_ReferenceIdeal_pre_inputs_finite :=
  fun m g _ => frame_reference m g trivial

/-- Magnitudes all below infinity: an array of reals. -/
theorem reals_of_mask {s : Shape} {φ : FTy} (x : FVec Ideal s φ) (hb : (⟨0, ![]⟩ : Shape).BroadcastsInDim s ![])
    (h : cmpf .olt (Host.absf (F := Ideal) (φ := .f32) x)
      (broadcastInDim s ![] hb (constant (F := Ideal) ⟨0, ![]⟩ .f32 0x7F800000#32)) = fun _ => 1#1) :
    Cert.KernelIdeal.Value.Reals x := by
  intro y
  have h' := congrFun h y
  pointwise [] at h'
  rw [show Ideal.ofBits FTy.f32 0x7F800000#32 = ⊤ by simp [Ideal.ofBits, Ideal.ieee]] at h'
  have lt : max (x y : EReal) (-(x y : EReal)) < ⊤ := by
    by_contra hn
    change BitVec.ofBool (decide (max (x y : EReal) (-(x y : EReal)) < ⊤)) = 1#1 at h'
    rw [decide_eq_false hn] at h'
    exact absurd h' (by decide)
  obtain ⟨l₀, l₁⟩ := max_lt_iff.1 lt
  generalize (x y : EReal) = a at l₀ l₁
  induction a using EReal.rec with
  | bot => exact absurd l₁ (by simp)
  | top => exact absurd l₀ (lt_irrefl _)
  | coe r => exact ⟨r, rfl⟩

/-- The attention call's array is its reference's where the inputs are finite. -/
theorem attn : Cert.algebraic_KernelIdeal_ReferenceIdeal_pre_inputs_finite := by
  pair_intro
  · run_from Cert.KernelIdeal.Gen.run_main m g
  · run_from Cert.ReferenceIdeal.Value.run m' g'
    obtain ⟨p0, p1, p2, p3, p4, p5, p6⟩ := hpre c
    rw [Cert.ReferenceIdeal.Value.res_eq, Cert.KernelIdeal.Value.final m c (reals_of_mask _ _ p0) (reals_of_mask _ _ p1)
      (reals_of_mask _ _ p2) (reals_of_mask _ _ p3) (reals_of_mask _ _ p4) (reals_of_mask _ _ p5) (reals_of_mask _ _ p6)]
    simp only [hagree c]

/-- The feed-forward call's array is its reference's. -/
theorem ffn : Cert.algebraic_FfnIdeal_FfnRefIdeal := by
  pair_intro
  · run_from Cert.FfnIdeal.Gen.run_main m g
  · run_from Cert.FfnRefIdeal.Value.run m' g'
    rw [Cert.FfnRefIdeal.Value.res_eq, Cert.FfnIdeal.Value.final m c]
    simp only [hagree c]

/-- Both arrays of the output-projection call are its reference's. -/
theorem out : Cert.algebraic_OutIdeal_OutRefIdeal := by
  pair_intro
  · run_from Cert.OutIdeal.Gen.run_main m g
  · run_from Cert.OutRefIdeal.Value.run m' g'
    · rw [Cert.OutRefIdeal.Value.res0_eq, Cert.OutIdeal.Value.final0 m c]
      simp only [hagree c]
    · rw [Cert.OutRefIdeal.Value.res1_eq, Cert.OutIdeal.Value.final1 m c]
      simp only [hagree c]

/-- The named rate's exponent is the number its literal rounds. -/
theorem preserves_inp : Cert.preserves_Inp_InpIdeal :=
  IdealRules.named_const.statement Cert.InpIdeal.κ "rope_rate" .f32 0xBE935D8E#32
    ((-((Real.log 10000) * (1 / 32)) : ℝ) : EReal) rfl

set_option maxHeartbeats 2000000 in
/-- The six arrays of the input-projection call are its reference's. -/
theorem inp : Cert.algebraic_InpIdeal_InpRefIdeal := by
  pair_intro
  · run_from Cert.InpIdeal.Gen.run_main m g
  · run_from Cert.InpRefIdeal.Value.run_values m' g'
    · rw [Cert.InpIdeal.Value.final0 m c]
    · rw [Cert.InpIdeal.Value.final1 m c]
    · rw [Cert.InpIdeal.Value.final2 m c]
    · rw [Cert.InpIdeal.Value.final3 m c]
    · rw [Cert.InpIdeal.Value.final4 m c]
    · rw [Cert.InpIdeal.Value.final5 m c]

/-- The modulation call's array is its reference's. -/
theorem ada : Cert.algebraic_AdaIdeal_AdaRefIdeal := by
  pair_intro
  · run_from Cert.AdaIdeal.Gen.run_main m g
  · run_from Cert.AdaRefIdeal.Value.run m' g'
    rw [Cert.AdaRefIdeal.Value.res_eq, Cert.AdaIdeal.Value.final m c]

/-- The neighbourhood attention's array is its reference's where the queries, keys and table are finite. -/
theorem nbr : Cert.algebraic_NbrIdeal_NbrRefIdeal_pre_na_finite := by
  pair_intro
  · run_from Cert.NbrIdeal.Gen.run_main m g
  · run_from Cert.NbrRefIdeal.Value.run m' g'
    obtain ⟨p0, p1, p2⟩ := hpre c
    rw [Cert.NbrRefIdeal.Value.res_eq,
      Cert.NbrIdeal.Value.final m c (reals_of_mask _ _ p0) (reals_of_mask _ _ p1) (reals_of_mask _ _ p2)]
    simp only [hagree c]

/-- All the certificate's claims. -/
theorem claim : Cert.Claim :=
  ⟨Cert.Kernel.Gen.facts, Cert.KernelIdeal.Gen.facts, Cert.ReferenceIdeal.Gen.facts, Cert.Ffn.Gen.facts,
    Cert.FfnIdeal.Gen.facts, Cert.FfnRefIdeal.Gen.facts, Cert.Out.Gen.facts, Cert.OutIdeal.Gen.facts,
    Cert.OutRefIdeal.Gen.facts, Cert.Inp.Gen.facts, Cert.InpIdeal.Gen.facts, Cert.InpRefIdeal.Gen.facts,
    Cert.Ada.Gen.facts, Cert.AdaIdeal.Gen.facts, Cert.AdaRefIdeal.Gen.facts,
    Cert.Nbr.Gen.facts, Cert.NbrIdeal.Gen.facts, Cert.NbrRefIdeal.Gen.facts, pre_facts, pre_na_facts,
    fun m ρ _ => Cert.Kernel.Gen.frame m ρ, fun m ρ _ => Cert.KernelIdeal.Gen.frame m ρ,
    fun m ρ _ => Cert.KernelIdeal.Gen.frame m ρ, frame_reference, frame_reference_pre,
    fun m ρ _ => Cert.Ffn.Gen.frame m ρ, fun m ρ _ => Cert.FfnIdeal.Gen.frame m ρ, frame_ffn_reference,
    fun m ρ _ => Cert.Out.Gen.frame m ρ, fun m ρ _ => Cert.OutIdeal.Gen.frame m ρ, frame_out_reference,
    fun m ρ _ => Cert.Inp.Gen.frame m ρ, fun m ρ _ => Cert.InpIdeal.Gen.frame m ρ, frame_inp_reference,
    fun m ρ _ => Cert.Ada.Gen.frame m ρ, fun m ρ _ => Cert.AdaIdeal.Gen.frame m ρ, frame_ada_reference,
    fun m ρ _ => Cert.Nbr.Gen.frame m ρ, fun m ρ _ => Cert.NbrIdeal.Gen.frame m ρ,
    fun m ρ _ => Cert.NbrIdeal.Gen.frame m ρ, frame_nbr_reference, frame_nbr_reference_pre,
    trivial, attn, trivial, ffn, trivial, out, preserves_inp, inp, trivial, ada, trivial,
    nbr⟩

end Cert.Proof

end
